-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1x512 : Shape := ⟨2, ![1, 512]⟩
abbrev S32x1x512 : Shape := ⟨3, ![32, 1, 512]⟩
abbrev S32 : Shape := ⟨1, ![32]⟩
abbrev S_ : Shape := ⟨0, ![]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S1x512, .bf16⟩
  | .local _ .vmem, ⟨3, _⟩ => ⟨S32x1x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v6 : BitVec 32 := Scalar.addi v2 c1_i32_1
  let c32_i32_2 : BitVec 32 := 32#32
  let v7 : BitVec 32 := Scalar.remsi v6 c32_i32_2
  let c1_i32_4 : BitVec 32 := 1#32
  let v8 : BitVec 32 := Scalar.muli v7 c1_i32_4
  let v9 : BitVec 32 := Scalar.addi c0_i32 v8
  v9.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 32 := Scalar.addi v2 c2_i32
  let c32_i32_5 : BitVec 32 := 32#32
  let v11 : BitVec 32 := Scalar.remsi v10 c32_i32_5
  let c1_i32_7 : BitVec 32 := 1#32
  let v12 : BitVec 32 := Scalar.muli v11 c1_i32_7
  let v13 : BitVec 32 := Scalar.addi c0_i32_8 v12
  v13.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v14 : BitVec 32 := Scalar.addi v2 c3_i32
  let c32_i32_9 : BitVec 32 := 32#32
  let v15 : BitVec 32 := Scalar.remsi v14 c32_i32_9
  let c1_i32_11 : BitVec 32 := 1#32
  let v16 : BitVec 32 := Scalar.muli v15 c1_i32_11
  let v17 : BitVec 32 := Scalar.addi c0_i32_12 v16
  v17.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v18 : BitVec 32 := Scalar.addi v2 c4_i32
  let c32_i32_13 : BitVec 32 := 32#32
  let v19 : BitVec 32 := Scalar.remsi v18 c32_i32_13
  let c1_i32_15 : BitVec 32 := 1#32
  let v20 : BitVec 32 := Scalar.muli v19 c1_i32_15
  let v21 : BitVec 32 := Scalar.addi c0_i32_16 v20
  v21.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v22 : BitVec 32 := Scalar.addi v2 c5_i32
  let c32_i32_17 : BitVec 32 := 32#32
  let v23 : BitVec 32 := Scalar.remsi v22 c32_i32_17
  let c1_i32_19 : BitVec 32 := 1#32
  let v24 : BitVec 32 := Scalar.muli v23 c1_i32_19
  let v25 : BitVec 32 := Scalar.addi c0_i32_20 v24
  v25.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v26 : BitVec 32 := Scalar.addi v2 c6_i32
  let c32_i32_21 : BitVec 32 := 32#32
  let v27 : BitVec 32 := Scalar.remsi v26 c32_i32_21
  let c1_i32_23 : BitVec 32 := 1#32
  let v28 : BitVec 32 := Scalar.muli v27 c1_i32_23
  let v29 : BitVec 32 := Scalar.addi c0_i32_24 v28
  v29.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v30 : BitVec 32 := Scalar.addi v2 c7_i32
  let c32_i32_25 : BitVec 32 := 32#32
  let v31 : BitVec 32 := Scalar.remsi v30 c32_i32_25
  let c1_i32_27 : BitVec 32 := 1#32
  let v32 : BitVec 32 := Scalar.muli v31 c1_i32_27
  let v33 : BitVec 32 := Scalar.addi c0_i32_28 v32
  v33.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v71 : BitVec 32 := Scalar.addi v2 c8_i32
  let c32_i32_33 : BitVec 32 := 32#32
  let v72 : BitVec 32 := Scalar.remsi v71 c32_i32_33
  let c1_i32_35 : BitVec 32 := 1#32
  let v73 : BitVec 32 := Scalar.muli v72 c1_i32_35
  let v74 : BitVec 32 := Scalar.addi c0_i32_36 v73
  v74.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v75 : BitVec 32 := Scalar.addi v2 c9_i32
  let c32_i32_37 : BitVec 32 := 32#32
  let v76 : BitVec 32 := Scalar.remsi v75 c32_i32_37
  let c1_i32_39 : BitVec 32 := 1#32
  let v77 : BitVec 32 := Scalar.muli v76 c1_i32_39
  let v78 : BitVec 32 := Scalar.addi c0_i32_40 v77
  v78.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v79 : BitVec 32 := Scalar.addi v2 c10_i32
  let c32_i32_41 : BitVec 32 := 32#32
  let v80 : BitVec 32 := Scalar.remsi v79 c32_i32_41
  let c1_i32_43 : BitVec 32 := 1#32
  let v81 : BitVec 32 := Scalar.muli v80 c1_i32_43
  let v82 : BitVec 32 := Scalar.addi c0_i32_44 v81
  v82.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v83 : BitVec 32 := Scalar.addi v2 c11_i32
  let c32_i32_45 : BitVec 32 := 32#32
  let v84 : BitVec 32 := Scalar.remsi v83 c32_i32_45
  let c1_i32_47 : BitVec 32 := 1#32
  let v85 : BitVec 32 := Scalar.muli v84 c1_i32_47
  let v86 : BitVec 32 := Scalar.addi c0_i32_48 v85
  v86.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v87 : BitVec 32 := Scalar.addi v2 c12_i32
  let c32_i32_49 : BitVec 32 := 32#32
  let v88 : BitVec 32 := Scalar.remsi v87 c32_i32_49
  let c1_i32_51 : BitVec 32 := 1#32
  let v89 : BitVec 32 := Scalar.muli v88 c1_i32_51
  let v90 : BitVec 32 := Scalar.addi c0_i32_52 v89
  v90.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v91 : BitVec 32 := Scalar.addi v2 c13_i32
  let c32_i32_53 : BitVec 32 := 32#32
  let v92 : BitVec 32 := Scalar.remsi v91 c32_i32_53
  let c1_i32_55 : BitVec 32 := 1#32
  let v93 : BitVec 32 := Scalar.muli v92 c1_i32_55
  let v94 : BitVec 32 := Scalar.addi c0_i32_56 v93
  v94.toNat
def k0_dev14 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v100 : BitVec 32 := Scalar.addi v2 c14_i32
  let c32_i32_59 : BitVec 32 := 32#32
  let v101 : BitVec 32 := Scalar.remsi v100 c32_i32_59
  let c1_i32_61 : BitVec 32 := 1#32
  let v102 : BitVec 32 := Scalar.muli v101 c1_i32_61
  let v103 : BitVec 32 := Scalar.addi c0_i32_62 v102
  v103.toNat
def k0_dev15 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v104 : BitVec 32 := Scalar.addi v2 c15_i32
  let c32_i32_63 : BitVec 32 := 32#32
  let v105 : BitVec 32 := Scalar.remsi v104 c32_i32_63
  let c1_i32_65 : BitVec 32 := 1#32
  let v106 : BitVec 32 := Scalar.muli v105 c1_i32_65
  let v107 : BitVec 32 := Scalar.addi c0_i32_66 v106
  v107.toNat
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v108 : BitVec 32 := Scalar.addi v2 c16_i32
  let c32_i32_67 : BitVec 32 := 32#32
  let v109 : BitVec 32 := Scalar.remsi v108 c32_i32_67
  let c1_i32_69 : BitVec 32 := 1#32
  let v110 : BitVec 32 := Scalar.muli v109 c1_i32_69
  let v111 : BitVec 32 := Scalar.addi c0_i32_70 v110
  v111.toNat
def k0_dev17 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v112 : BitVec 32 := Scalar.addi v2 c17_i32
  let c32_i32_71 : BitVec 32 := 32#32
  let v113 : BitVec 32 := Scalar.remsi v112 c32_i32_71
  let c1_i32_73 : BitVec 32 := 1#32
  let v114 : BitVec 32 := Scalar.muli v113 c1_i32_73
  let v115 : BitVec 32 := Scalar.addi c0_i32_74 v114
  v115.toNat
def k0_dev18 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v116 : BitVec 32 := Scalar.addi v2 c18_i32
  let c32_i32_75 : BitVec 32 := 32#32
  let v117 : BitVec 32 := Scalar.remsi v116 c32_i32_75
  let c1_i32_77 : BitVec 32 := 1#32
  let v118 : BitVec 32 := Scalar.muli v117 c1_i32_77
  let v119 : BitVec 32 := Scalar.addi c0_i32_78 v118
  v119.toNat
def k0_dev19 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v120 : BitVec 32 := Scalar.addi v2 c19_i32
  let c32_i32_79 : BitVec 32 := 32#32
  let v121 : BitVec 32 := Scalar.remsi v120 c32_i32_79
  let c1_i32_81 : BitVec 32 := 1#32
  let v122 : BitVec 32 := Scalar.muli v121 c1_i32_81
  let v123 : BitVec 32 := Scalar.addi c0_i32_82 v122
  v123.toNat
def k0_dev20 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v129 : BitVec 32 := Scalar.addi v2 c20_i32
  let c32_i32_85 : BitVec 32 := 32#32
  let v130 : BitVec 32 := Scalar.remsi v129 c32_i32_85
  let c1_i32_87 : BitVec 32 := 1#32
  let v131 : BitVec 32 := Scalar.muli v130 c1_i32_87
  let v132 : BitVec 32 := Scalar.addi c0_i32_88 v131
  v132.toNat
def k0_dev21 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v133 : BitVec 32 := Scalar.addi v2 c21_i32
  let c32_i32_89 : BitVec 32 := 32#32
  let v134 : BitVec 32 := Scalar.remsi v133 c32_i32_89
  let c1_i32_91 : BitVec 32 := 1#32
  let v135 : BitVec 32 := Scalar.muli v134 c1_i32_91
  let v136 : BitVec 32 := Scalar.addi c0_i32_92 v135
  v136.toNat
def k0_dev22 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v137 : BitVec 32 := Scalar.addi v2 c22_i32
  let c32_i32_93 : BitVec 32 := 32#32
  let v138 : BitVec 32 := Scalar.remsi v137 c32_i32_93
  let c1_i32_95 : BitVec 32 := 1#32
  let v139 : BitVec 32 := Scalar.muli v138 c1_i32_95
  let v140 : BitVec 32 := Scalar.addi c0_i32_96 v139
  v140.toNat
def k0_dev23 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v141 : BitVec 32 := Scalar.addi v2 c23_i32
  let c32_i32_97 : BitVec 32 := 32#32
  let v142 : BitVec 32 := Scalar.remsi v141 c32_i32_97
  let c1_i32_99 : BitVec 32 := 1#32
  let v143 : BitVec 32 := Scalar.muli v142 c1_i32_99
  let v144 : BitVec 32 := Scalar.addi c0_i32_100 v143
  v144.toNat
def k0_dev24 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v145 : BitVec 32 := Scalar.addi v2 c24_i32
  let c32_i32_101 : BitVec 32 := 32#32
  let v146 : BitVec 32 := Scalar.remsi v145 c32_i32_101
  let c1_i32_103 : BitVec 32 := 1#32
  let v147 : BitVec 32 := Scalar.muli v146 c1_i32_103
  let v148 : BitVec 32 := Scalar.addi c0_i32_104 v147
  v148.toNat
def k0_dev25 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v149 : BitVec 32 := Scalar.addi v2 c25_i32
  let c32_i32_105 : BitVec 32 := 32#32
  let v150 : BitVec 32 := Scalar.remsi v149 c32_i32_105
  let c1_i32_107 : BitVec 32 := 1#32
  let v151 : BitVec 32 := Scalar.muli v150 c1_i32_107
  let v152 : BitVec 32 := Scalar.addi c0_i32_108 v151
  v152.toNat
def k0_dev26 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v158 : BitVec 32 := Scalar.addi v2 c26_i32
  let c32_i32_111 : BitVec 32 := 32#32
  let v159 : BitVec 32 := Scalar.remsi v158 c32_i32_111
  let c1_i32_113 : BitVec 32 := 1#32
  let v160 : BitVec 32 := Scalar.muli v159 c1_i32_113
  let v161 : BitVec 32 := Scalar.addi c0_i32_114 v160
  v161.toNat
def k0_dev27 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v162 : BitVec 32 := Scalar.addi v2 c27_i32
  let c32_i32_115 : BitVec 32 := 32#32
  let v163 : BitVec 32 := Scalar.remsi v162 c32_i32_115
  let c1_i32_117 : BitVec 32 := 1#32
  let v164 : BitVec 32 := Scalar.muli v163 c1_i32_117
  let v165 : BitVec 32 := Scalar.addi c0_i32_118 v164
  v165.toNat
def k0_dev28 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v166 : BitVec 32 := Scalar.addi v2 c28_i32
  let c32_i32_119 : BitVec 32 := 32#32
  let v167 : BitVec 32 := Scalar.remsi v166 c32_i32_119
  let c1_i32_121 : BitVec 32 := 1#32
  let v168 : BitVec 32 := Scalar.muli v167 c1_i32_121
  let v169 : BitVec 32 := Scalar.addi c0_i32_122 v168
  v169.toNat
def k0_dev29 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v170 : BitVec 32 := Scalar.addi v2 c29_i32
  let c32_i32_123 : BitVec 32 := 32#32
  let v171 : BitVec 32 := Scalar.remsi v170 c32_i32_123
  let c1_i32_125 : BitVec 32 := 1#32
  let v172 : BitVec 32 := Scalar.muli v171 c1_i32_125
  let v173 : BitVec 32 := Scalar.addi c0_i32_126 v172
  v173.toNat
def k0_dev30 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v174 : BitVec 32 := Scalar.addi v2 c30_i32
  let c32_i32_127 : BitVec 32 := 32#32
  let v175 : BitVec 32 := Scalar.remsi v174 c32_i32_127
  let c1_i32_129 : BitVec 32 := 1#32
  let v176 : BitVec 32 := Scalar.muli v175 c1_i32_129
  let v177 : BitVec 32 := Scalar.addi c0_i32_130 v176
  v177.toNat
def k0_dev31 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v178 : BitVec 32 := Scalar.addi v2 c31_i32
  let c32_i32_131 : BitVec 32 := 32#32
  let v179 : BitVec 32 := Scalar.remsi v178 c32_i32_131
  let c1_i32_133 : BitVec 32 := 1#32
  let v180 : BitVec 32 := Scalar.muli v179 c1_i32_133
  let v181 : BitVec 32 := Scalar.addi c0_i32_134 v180
  v181.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_136 : BitVec 32 := 0#32
  let v182 : BitVec 1 := Scalar.cmpi .slt v2 c0_i32_136
  let v183 : BitVec 32 := Scalar.extui v182
  let c0_i32_137 : BitVec 32 := 0#32
  let v184 : BitVec 1 := Scalar.cmpi .ne v183 c0_i32_137
  v184

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev32 : Nat :=
  let c0_i32_433 : BitVec 32 := 0#32
  let c0_i32_431 : BitVec 32 := 0#32
  let c1_i32_432 : BitVec 32 := 1#32
  let v651 : BitVec 32 := Scalar.muli c0_i32_431 c1_i32_432
  let v652 : BitVec 32 := Scalar.addi c0_i32_433 v651
  v652.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_138 : BitVec 32 := 1#32
  let v185 : BitVec 1 := Scalar.cmpi .slt v2 c1_i32_138
  let v186 : BitVec 32 := Scalar.extui v185
  let c0_i32_139 : BitVec 32 := 0#32
  let v187 : BitVec 1 := Scalar.cmpi .ne v186 c0_i32_139
  v187

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev33 : Nat :=
  let c0_i32_433 : BitVec 32 := 0#32
  let c1_i32_431 : BitVec 32 := 1#32
  let c1_i32_432 : BitVec 32 := 1#32
  let v651 : BitVec 32 := Scalar.muli c1_i32_431 c1_i32_432
  let v652 : BitVec 32 := Scalar.addi c0_i32_433 v651
  v652.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_140 : BitVec 32 := 2#32
  let v188 : BitVec 1 := Scalar.cmpi .slt v2 c2_i32_140
  let v189 : BitVec 32 := Scalar.extui v188
  let c0_i32_141 : BitVec 32 := 0#32
  let v190 : BitVec 1 := Scalar.cmpi .ne v189 c0_i32_141
  v190

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev34 : Nat :=
  let c0_i32_433 : BitVec 32 := 0#32
  let c2_i32_431 : BitVec 32 := 2#32
  let c1_i32_432 : BitVec 32 := 1#32
  let v651 : BitVec 32 := Scalar.muli c2_i32_431 c1_i32_432
  let v652 : BitVec 32 := Scalar.addi c0_i32_433 v651
  v652.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_142 : BitVec 32 := 3#32
  let v191 : BitVec 1 := Scalar.cmpi .slt v2 c3_i32_142
  let v192 : BitVec 32 := Scalar.extui v191
  let c0_i32_143 : BitVec 32 := 0#32
  let v193 : BitVec 1 := Scalar.cmpi .ne v192 c0_i32_143
  v193

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev35 : Nat :=
  let c0_i32_433 : BitVec 32 := 0#32
  let c3_i32_431 : BitVec 32 := 3#32
  let c1_i32_432 : BitVec 32 := 1#32
  let v651 : BitVec 32 := Scalar.muli c3_i32_431 c1_i32_432
  let v652 : BitVec 32 := Scalar.addi c0_i32_433 v651
  v652.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_144 : BitVec 32 := 4#32
  let v194 : BitVec 1 := Scalar.cmpi .slt v2 c4_i32_144
  let v195 : BitVec 32 := Scalar.extui v194
  let c0_i32_145 : BitVec 32 := 0#32
  let v196 : BitVec 1 := Scalar.cmpi .ne v195 c0_i32_145
  v196

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev36 : Nat :=
  let c0_i32_433 : BitVec 32 := 0#32
  let c4_i32_431 : BitVec 32 := 4#32
  let c1_i32_432 : BitVec 32 := 1#32
  let v651 : BitVec 32 := Scalar.muli c4_i32_431 c1_i32_432
  let v652 : BitVec 32 := Scalar.addi c0_i32_433 v651
  v652.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_146 : BitVec 32 := 5#32
  let v197 : BitVec 1 := Scalar.cmpi .slt v2 c5_i32_146
  let v198 : BitVec 32 := Scalar.extui v197
  let c0_i32_147 : BitVec 32 := 0#32
  let v199 : BitVec 1 := Scalar.cmpi .ne v198 c0_i32_147
  v199

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev37 : Nat :=
  let c0_i32_433 : BitVec 32 := 0#32
  let c5_i32_431 : BitVec 32 := 5#32
  let c1_i32_432 : BitVec 32 := 1#32
  let v651 : BitVec 32 := Scalar.muli c5_i32_431 c1_i32_432
  let v652 : BitVec 32 := Scalar.addi c0_i32_433 v651
  v652.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_148 : BitVec 32 := 6#32
  let v200 : BitVec 1 := Scalar.cmpi .slt v2 c6_i32_148
  let v201 : BitVec 32 := Scalar.extui v200
  let c0_i32_149 : BitVec 32 := 0#32
  let v202 : BitVec 1 := Scalar.cmpi .ne v201 c0_i32_149
  v202

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev38 : Nat :=
  let c0_i32_433 : BitVec 32 := 0#32
  let c6_i32_431 : BitVec 32 := 6#32
  let c1_i32_432 : BitVec 32 := 1#32
  let v651 : BitVec 32 := Scalar.muli c6_i32_431 c1_i32_432
  let v652 : BitVec 32 := Scalar.addi c0_i32_433 v651
  v652.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_150 : BitVec 32 := 7#32
  let v203 : BitVec 1 := Scalar.cmpi .slt v2 c7_i32_150
  let v204 : BitVec 32 := Scalar.extui v203
  let c0_i32_151 : BitVec 32 := 0#32
  let v205 : BitVec 1 := Scalar.cmpi .ne v204 c0_i32_151
  v205

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev39 : Nat :=
  let c0_i32_433 : BitVec 32 := 0#32
  let c7_i32_431 : BitVec 32 := 7#32
  let c1_i32_432 : BitVec 32 := 1#32
  let v651 : BitVec 32 := Scalar.muli c7_i32_431 c1_i32_432
  let v652 : BitVec 32 := Scalar.addi c0_i32_433 v651
  v652.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_152 : BitVec 32 := 8#32
  let v206 : BitVec 1 := Scalar.cmpi .slt v2 c8_i32_152
  let v207 : BitVec 32 := Scalar.extui v206
  let c0_i32_153 : BitVec 32 := 0#32
  let v208 : BitVec 1 := Scalar.cmpi .ne v207 c0_i32_153
  v208

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev40 : Nat :=
  let c0_i32_433 : BitVec 32 := 0#32
  let c8_i32_431 : BitVec 32 := 8#32
  let c1_i32_432 : BitVec 32 := 1#32
  let v651 : BitVec 32 := Scalar.muli c8_i32_431 c1_i32_432
  let v652 : BitVec 32 := Scalar.addi c0_i32_433 v651
  v652.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_154 : BitVec 32 := 9#32
  let v209 : BitVec 1 := Scalar.cmpi .slt v2 c9_i32_154
  let v210 : BitVec 32 := Scalar.extui v209
  let c0_i32_155 : BitVec 32 := 0#32
  let v211 : BitVec 1 := Scalar.cmpi .ne v210 c0_i32_155
  v211

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev41 : Nat :=
  let c0_i32_433 : BitVec 32 := 0#32
  let c9_i32_431 : BitVec 32 := 9#32
  let c1_i32_432 : BitVec 32 := 1#32
  let v651 : BitVec 32 := Scalar.muli c9_i32_431 c1_i32_432
  let v652 : BitVec 32 := Scalar.addi c0_i32_433 v651
  v652.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_156 : BitVec 32 := 10#32
  let v212 : BitVec 1 := Scalar.cmpi .slt v2 c10_i32_156
  let v213 : BitVec 32 := Scalar.extui v212
  let c0_i32_157 : BitVec 32 := 0#32
  let v214 : BitVec 1 := Scalar.cmpi .ne v213 c0_i32_157
  v214

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev42 : Nat :=
  let c0_i32_433 : BitVec 32 := 0#32
  let c10_i32_431 : BitVec 32 := 10#32
  let c1_i32_432 : BitVec 32 := 1#32
  let v651 : BitVec 32 := Scalar.muli c10_i32_431 c1_i32_432
  let v652 : BitVec 32 := Scalar.addi c0_i32_433 v651
  v652.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_158 : BitVec 32 := 11#32
  let v215 : BitVec 1 := Scalar.cmpi .slt v2 c11_i32_158
  let v216 : BitVec 32 := Scalar.extui v215
  let c0_i32_159 : BitVec 32 := 0#32
  let v217 : BitVec 1 := Scalar.cmpi .ne v216 c0_i32_159
  v217

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev43 : Nat :=
  let c0_i32_433 : BitVec 32 := 0#32
  let c11_i32_431 : BitVec 32 := 11#32
  let c1_i32_432 : BitVec 32 := 1#32
  let v651 : BitVec 32 := Scalar.muli c11_i32_431 c1_i32_432
  let v652 : BitVec 32 := Scalar.addi c0_i32_433 v651
  v652.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_160 : BitVec 32 := 12#32
  let v218 : BitVec 1 := Scalar.cmpi .slt v2 c12_i32_160
  let v219 : BitVec 32 := Scalar.extui v218
  let c0_i32_161 : BitVec 32 := 0#32
  let v220 : BitVec 1 := Scalar.cmpi .ne v219 c0_i32_161
  v220

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev44 : Nat :=
  let c0_i32_433 : BitVec 32 := 0#32
  let c12_i32_431 : BitVec 32 := 12#32
  let c1_i32_432 : BitVec 32 := 1#32
  let v651 : BitVec 32 := Scalar.muli c12_i32_431 c1_i32_432
  let v652 : BitVec 32 := Scalar.addi c0_i32_433 v651
  v652.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_162 : BitVec 32 := 13#32
  let v221 : BitVec 1 := Scalar.cmpi .slt v2 c13_i32_162
  let v222 : BitVec 32 := Scalar.extui v221
  let c0_i32_163 : BitVec 32 := 0#32
  let v223 : BitVec 1 := Scalar.cmpi .ne v222 c0_i32_163
  v223

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev45 : Nat :=
  let c0_i32_433 : BitVec 32 := 0#32
  let c13_i32_431 : BitVec 32 := 13#32
  let c1_i32_432 : BitVec 32 := 1#32
  let v651 : BitVec 32 := Scalar.muli c13_i32_431 c1_i32_432
  let v652 : BitVec 32 := Scalar.addi c0_i32_433 v651
  v652.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_164 : BitVec 32 := 14#32
  let v224 : BitVec 1 := Scalar.cmpi .slt v2 c14_i32_164
  let v225 : BitVec 32 := Scalar.extui v224
  let c0_i32_165 : BitVec 32 := 0#32
  let v226 : BitVec 1 := Scalar.cmpi .ne v225 c0_i32_165
  v226

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev46 : Nat :=
  let c0_i32_433 : BitVec 32 := 0#32
  let c14_i32_431 : BitVec 32 := 14#32
  let c1_i32_432 : BitVec 32 := 1#32
  let v651 : BitVec 32 := Scalar.muli c14_i32_431 c1_i32_432
  let v652 : BitVec 32 := Scalar.addi c0_i32_433 v651
  v652.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_166 : BitVec 32 := 15#32
  let v227 : BitVec 1 := Scalar.cmpi .slt v2 c15_i32_166
  let v228 : BitVec 32 := Scalar.extui v227
  let c0_i32_167 : BitVec 32 := 0#32
  let v229 : BitVec 1 := Scalar.cmpi .ne v228 c0_i32_167
  v229

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev47 : Nat :=
  let c0_i32_433 : BitVec 32 := 0#32
  let c15_i32_431 : BitVec 32 := 15#32
  let c1_i32_432 : BitVec 32 := 1#32
  let v651 : BitVec 32 := Scalar.muli c15_i32_431 c1_i32_432
  let v652 : BitVec 32 := Scalar.addi c0_i32_433 v651
  v652.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_168 : BitVec 32 := 16#32
  let v230 : BitVec 1 := Scalar.cmpi .slt v2 c16_i32_168
  let v231 : BitVec 32 := Scalar.extui v230
  let c0_i32_169 : BitVec 32 := 0#32
  let v232 : BitVec 1 := Scalar.cmpi .ne v231 c0_i32_169
  v232

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev48 : Nat :=
  let c0_i32_433 : BitVec 32 := 0#32
  let c16_i32_431 : BitVec 32 := 16#32
  let c1_i32_432 : BitVec 32 := 1#32
  let v651 : BitVec 32 := Scalar.muli c16_i32_431 c1_i32_432
  let v652 : BitVec 32 := Scalar.addi c0_i32_433 v651
  v652.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_170 : BitVec 32 := 17#32
  let v233 : BitVec 1 := Scalar.cmpi .slt v2 c17_i32_170
  let v234 : BitVec 32 := Scalar.extui v233
  let c0_i32_171 : BitVec 32 := 0#32
  let v235 : BitVec 1 := Scalar.cmpi .ne v234 c0_i32_171
  v235

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev49 : Nat :=
  let c0_i32_433 : BitVec 32 := 0#32
  let c17_i32_431 : BitVec 32 := 17#32
  let c1_i32_432 : BitVec 32 := 1#32
  let v651 : BitVec 32 := Scalar.muli c17_i32_431 c1_i32_432
  let v652 : BitVec 32 := Scalar.addi c0_i32_433 v651
  v652.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_172 : BitVec 32 := 18#32
  let v236 : BitVec 1 := Scalar.cmpi .slt v2 c18_i32_172
  let v237 : BitVec 32 := Scalar.extui v236
  let c0_i32_173 : BitVec 32 := 0#32
  let v238 : BitVec 1 := Scalar.cmpi .ne v237 c0_i32_173
  v238

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev50 : Nat :=
  let c0_i32_433 : BitVec 32 := 0#32
  let c18_i32_431 : BitVec 32 := 18#32
  let c1_i32_432 : BitVec 32 := 1#32
  let v651 : BitVec 32 := Scalar.muli c18_i32_431 c1_i32_432
  let v652 : BitVec 32 := Scalar.addi c0_i32_433 v651
  v652.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_174 : BitVec 32 := 19#32
  let v239 : BitVec 1 := Scalar.cmpi .slt v2 c19_i32_174
  let v240 : BitVec 32 := Scalar.extui v239
  let c0_i32_175 : BitVec 32 := 0#32
  let v241 : BitVec 1 := Scalar.cmpi .ne v240 c0_i32_175
  v241

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev51 : Nat :=
  let c0_i32_433 : BitVec 32 := 0#32
  let c19_i32_431 : BitVec 32 := 19#32
  let c1_i32_432 : BitVec 32 := 1#32
  let v651 : BitVec 32 := Scalar.muli c19_i32_431 c1_i32_432
  let v652 : BitVec 32 := Scalar.addi c0_i32_433 v651
  v652.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_176 : BitVec 32 := 20#32
  let v242 : BitVec 1 := Scalar.cmpi .slt v2 c20_i32_176
  let v243 : BitVec 32 := Scalar.extui v242
  let c0_i32_177 : BitVec 32 := 0#32
  let v244 : BitVec 1 := Scalar.cmpi .ne v243 c0_i32_177
  v244

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev52 : Nat :=
  let c0_i32_433 : BitVec 32 := 0#32
  let c20_i32_431 : BitVec 32 := 20#32
  let c1_i32_432 : BitVec 32 := 1#32
  let v651 : BitVec 32 := Scalar.muli c20_i32_431 c1_i32_432
  let v652 : BitVec 32 := Scalar.addi c0_i32_433 v651
  v652.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_178 : BitVec 32 := 21#32
  let v245 : BitVec 1 := Scalar.cmpi .slt v2 c21_i32_178
  let v246 : BitVec 32 := Scalar.extui v245
  let c0_i32_179 : BitVec 32 := 0#32
  let v247 : BitVec 1 := Scalar.cmpi .ne v246 c0_i32_179
  v247

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev53 : Nat :=
  let c0_i32_433 : BitVec 32 := 0#32
  let c21_i32_431 : BitVec 32 := 21#32
  let c1_i32_432 : BitVec 32 := 1#32
  let v651 : BitVec 32 := Scalar.muli c21_i32_431 c1_i32_432
  let v652 : BitVec 32 := Scalar.addi c0_i32_433 v651
  v652.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_180 : BitVec 32 := 22#32
  let v248 : BitVec 1 := Scalar.cmpi .slt v2 c22_i32_180
  let v249 : BitVec 32 := Scalar.extui v248
  let c0_i32_181 : BitVec 32 := 0#32
  let v250 : BitVec 1 := Scalar.cmpi .ne v249 c0_i32_181
  v250

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev54 : Nat :=
  let c0_i32_433 : BitVec 32 := 0#32
  let c22_i32_431 : BitVec 32 := 22#32
  let c1_i32_432 : BitVec 32 := 1#32
  let v651 : BitVec 32 := Scalar.muli c22_i32_431 c1_i32_432
  let v652 : BitVec 32 := Scalar.addi c0_i32_433 v651
  v652.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_182 : BitVec 32 := 23#32
  let v251 : BitVec 1 := Scalar.cmpi .slt v2 c23_i32_182
  let v252 : BitVec 32 := Scalar.extui v251
  let c0_i32_183 : BitVec 32 := 0#32
  let v253 : BitVec 1 := Scalar.cmpi .ne v252 c0_i32_183
  v253

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev55 : Nat :=
  let c0_i32_433 : BitVec 32 := 0#32
  let c23_i32_431 : BitVec 32 := 23#32
  let c1_i32_432 : BitVec 32 := 1#32
  let v651 : BitVec 32 := Scalar.muli c23_i32_431 c1_i32_432
  let v652 : BitVec 32 := Scalar.addi c0_i32_433 v651
  v652.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_184 : BitVec 32 := 24#32
  let v254 : BitVec 1 := Scalar.cmpi .slt v2 c24_i32_184
  let v255 : BitVec 32 := Scalar.extui v254
  let c0_i32_185 : BitVec 32 := 0#32
  let v256 : BitVec 1 := Scalar.cmpi .ne v255 c0_i32_185
  v256

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev56 : Nat :=
  let c0_i32_433 : BitVec 32 := 0#32
  let c24_i32_431 : BitVec 32 := 24#32
  let c1_i32_432 : BitVec 32 := 1#32
  let v651 : BitVec 32 := Scalar.muli c24_i32_431 c1_i32_432
  let v652 : BitVec 32 := Scalar.addi c0_i32_433 v651
  v652.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_186 : BitVec 32 := 25#32
  let v257 : BitVec 1 := Scalar.cmpi .slt v2 c25_i32_186
  let v258 : BitVec 32 := Scalar.extui v257
  let c0_i32_187 : BitVec 32 := 0#32
  let v259 : BitVec 1 := Scalar.cmpi .ne v258 c0_i32_187
  v259

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev57 : Nat :=
  let c0_i32_433 : BitVec 32 := 0#32
  let c25_i32_431 : BitVec 32 := 25#32
  let c1_i32_432 : BitVec 32 := 1#32
  let v651 : BitVec 32 := Scalar.muli c25_i32_431 c1_i32_432
  let v652 : BitVec 32 := Scalar.addi c0_i32_433 v651
  v652.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_188 : BitVec 32 := 26#32
  let v260 : BitVec 1 := Scalar.cmpi .slt v2 c26_i32_188
  let v261 : BitVec 32 := Scalar.extui v260
  let c0_i32_189 : BitVec 32 := 0#32
  let v262 : BitVec 1 := Scalar.cmpi .ne v261 c0_i32_189
  v262

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev58 : Nat :=
  let c0_i32_433 : BitVec 32 := 0#32
  let c26_i32_431 : BitVec 32 := 26#32
  let c1_i32_432 : BitVec 32 := 1#32
  let v651 : BitVec 32 := Scalar.muli c26_i32_431 c1_i32_432
  let v652 : BitVec 32 := Scalar.addi c0_i32_433 v651
  v652.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_190 : BitVec 32 := 27#32
  let v263 : BitVec 1 := Scalar.cmpi .slt v2 c27_i32_190
  let v264 : BitVec 32 := Scalar.extui v263
  let c0_i32_191 : BitVec 32 := 0#32
  let v265 : BitVec 1 := Scalar.cmpi .ne v264 c0_i32_191
  v265

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev59 : Nat :=
  let c0_i32_433 : BitVec 32 := 0#32
  let c27_i32_431 : BitVec 32 := 27#32
  let c1_i32_432 : BitVec 32 := 1#32
  let v651 : BitVec 32 := Scalar.muli c27_i32_431 c1_i32_432
  let v652 : BitVec 32 := Scalar.addi c0_i32_433 v651
  v652.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_192 : BitVec 32 := 28#32
  let v266 : BitVec 1 := Scalar.cmpi .slt v2 c28_i32_192
  let v267 : BitVec 32 := Scalar.extui v266
  let c0_i32_193 : BitVec 32 := 0#32
  let v268 : BitVec 1 := Scalar.cmpi .ne v267 c0_i32_193
  v268

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev60 : Nat :=
  let c0_i32_433 : BitVec 32 := 0#32
  let c28_i32_431 : BitVec 32 := 28#32
  let c1_i32_432 : BitVec 32 := 1#32
  let v651 : BitVec 32 := Scalar.muli c28_i32_431 c1_i32_432
  let v652 : BitVec 32 := Scalar.addi c0_i32_433 v651
  v652.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_194 : BitVec 32 := 29#32
  let v269 : BitVec 1 := Scalar.cmpi .slt v2 c29_i32_194
  let v270 : BitVec 32 := Scalar.extui v269
  let c0_i32_195 : BitVec 32 := 0#32
  let v271 : BitVec 1 := Scalar.cmpi .ne v270 c0_i32_195
  v271

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev61 : Nat :=
  let c0_i32_433 : BitVec 32 := 0#32
  let c29_i32_431 : BitVec 32 := 29#32
  let c1_i32_432 : BitVec 32 := 1#32
  let v651 : BitVec 32 := Scalar.muli c29_i32_431 c1_i32_432
  let v652 : BitVec 32 := Scalar.addi c0_i32_433 v651
  v652.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_196 : BitVec 32 := 30#32
  let v272 : BitVec 1 := Scalar.cmpi .slt v2 c30_i32_196
  let v273 : BitVec 32 := Scalar.extui v272
  let c0_i32_197 : BitVec 32 := 0#32
  let v274 : BitVec 1 := Scalar.cmpi .ne v273 c0_i32_197
  v274

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev62 : Nat :=
  let c0_i32_433 : BitVec 32 := 0#32
  let c30_i32_431 : BitVec 32 := 30#32
  let c1_i32_432 : BitVec 32 := 1#32
  let v651 : BitVec 32 := Scalar.muli c30_i32_431 c1_i32_432
  let v652 : BitVec 32 := Scalar.addi c0_i32_433 v651
  v652.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_198 : BitVec 32 := 31#32
  let v275 : BitVec 1 := Scalar.cmpi .slt v2 c31_i32_198
  let v276 : BitVec 32 := Scalar.extui v275
  let c0_i32_199 : BitVec 32 := 0#32
  let v277 : BitVec 1 := Scalar.cmpi .ne v276 c0_i32_199
  v277

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_434 : BitVec 32 := 0#32
  let c0_i32_435 : BitVec 32 := 0#32
  ![v2.toNat, 0, 0]
def k0_dev63 : Nat :=
  let c0_i32_433 : BitVec 32 := 0#32
  let c31_i32_431 : BitVec 32 := 31#32
  let c1_i32_432 : BitVec 32 := 1#32
  let v651 : BitVec 32 := Scalar.muli c31_i32_431 c1_i32_432
  let v652 : BitVec 32 := Scalar.addi c0_i32_433 v651
  v652.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_366 : BitVec 32 := 0#32
  let v555 : BitVec 1 := Scalar.cmpi .slt v2 c0_i32_366
  let v556 : BitVec 32 := Scalar.extui v555
  let c0_i32_367 : BitVec 32 := 0#32
  let v557 : BitVec 1 := Scalar.cmpi .ne v556 c0_i32_367
  v557

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_368 : BitVec 32 := 1#32
  let v558 : BitVec 1 := Scalar.cmpi .slt v2 c1_i32_368
  let v559 : BitVec 32 := Scalar.extui v558
  let c0_i32_369 : BitVec 32 := 0#32
  let v560 : BitVec 1 := Scalar.cmpi .ne v559 c0_i32_369
  v560

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_370 : BitVec 32 := 2#32
  let v561 : BitVec 1 := Scalar.cmpi .slt v2 c2_i32_370
  let v562 : BitVec 32 := Scalar.extui v561
  let c0_i32_371 : BitVec 32 := 0#32
  let v563 : BitVec 1 := Scalar.cmpi .ne v562 c0_i32_371
  v563

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_372 : BitVec 32 := 3#32
  let v564 : BitVec 1 := Scalar.cmpi .slt v2 c3_i32_372
  let v565 : BitVec 32 := Scalar.extui v564
  let c0_i32_373 : BitVec 32 := 0#32
  let v566 : BitVec 1 := Scalar.cmpi .ne v565 c0_i32_373
  v566

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_374 : BitVec 32 := 4#32
  let v567 : BitVec 1 := Scalar.cmpi .slt v2 c4_i32_374
  let v568 : BitVec 32 := Scalar.extui v567
  let c0_i32_375 : BitVec 32 := 0#32
  let v569 : BitVec 1 := Scalar.cmpi .ne v568 c0_i32_375
  v569

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_376 : BitVec 32 := 5#32
  let v570 : BitVec 1 := Scalar.cmpi .slt v2 c5_i32_376
  let v571 : BitVec 32 := Scalar.extui v570
  let c0_i32_377 : BitVec 32 := 0#32
  let v572 : BitVec 1 := Scalar.cmpi .ne v571 c0_i32_377
  v572

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_378 : BitVec 32 := 6#32
  let v573 : BitVec 1 := Scalar.cmpi .slt v2 c6_i32_378
  let v574 : BitVec 32 := Scalar.extui v573
  let c0_i32_379 : BitVec 32 := 0#32
  let v575 : BitVec 1 := Scalar.cmpi .ne v574 c0_i32_379
  v575

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_380 : BitVec 32 := 7#32
  let v576 : BitVec 1 := Scalar.cmpi .slt v2 c7_i32_380
  let v577 : BitVec 32 := Scalar.extui v576
  let c0_i32_381 : BitVec 32 := 0#32
  let v578 : BitVec 1 := Scalar.cmpi .ne v577 c0_i32_381
  v578

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_382 : BitVec 32 := 8#32
  let v579 : BitVec 1 := Scalar.cmpi .slt v2 c8_i32_382
  let v580 : BitVec 32 := Scalar.extui v579
  let c0_i32_383 : BitVec 32 := 0#32
  let v581 : BitVec 1 := Scalar.cmpi .ne v580 c0_i32_383
  v581

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_384 : BitVec 32 := 9#32
  let v582 : BitVec 1 := Scalar.cmpi .slt v2 c9_i32_384
  let v583 : BitVec 32 := Scalar.extui v582
  let c0_i32_385 : BitVec 32 := 0#32
  let v584 : BitVec 1 := Scalar.cmpi .ne v583 c0_i32_385
  v584

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_386 : BitVec 32 := 10#32
  let v585 : BitVec 1 := Scalar.cmpi .slt v2 c10_i32_386
  let v586 : BitVec 32 := Scalar.extui v585
  let c0_i32_387 : BitVec 32 := 0#32
  let v587 : BitVec 1 := Scalar.cmpi .ne v586 c0_i32_387
  v587

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_388 : BitVec 32 := 11#32
  let v588 : BitVec 1 := Scalar.cmpi .slt v2 c11_i32_388
  let v589 : BitVec 32 := Scalar.extui v588
  let c0_i32_389 : BitVec 32 := 0#32
  let v590 : BitVec 1 := Scalar.cmpi .ne v589 c0_i32_389
  v590

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_390 : BitVec 32 := 12#32
  let v591 : BitVec 1 := Scalar.cmpi .slt v2 c12_i32_390
  let v592 : BitVec 32 := Scalar.extui v591
  let c0_i32_391 : BitVec 32 := 0#32
  let v593 : BitVec 1 := Scalar.cmpi .ne v592 c0_i32_391
  v593

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_392 : BitVec 32 := 13#32
  let v594 : BitVec 1 := Scalar.cmpi .slt v2 c13_i32_392
  let v595 : BitVec 32 := Scalar.extui v594
  let c0_i32_393 : BitVec 32 := 0#32
  let v596 : BitVec 1 := Scalar.cmpi .ne v595 c0_i32_393
  v596

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_394 : BitVec 32 := 14#32
  let v597 : BitVec 1 := Scalar.cmpi .slt v2 c14_i32_394
  let v598 : BitVec 32 := Scalar.extui v597
  let c0_i32_395 : BitVec 32 := 0#32
  let v599 : BitVec 1 := Scalar.cmpi .ne v598 c0_i32_395
  v599

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_396 : BitVec 32 := 15#32
  let v600 : BitVec 1 := Scalar.cmpi .slt v2 c15_i32_396
  let v601 : BitVec 32 := Scalar.extui v600
  let c0_i32_397 : BitVec 32 := 0#32
  let v602 : BitVec 1 := Scalar.cmpi .ne v601 c0_i32_397
  v602

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_398 : BitVec 32 := 16#32
  let v603 : BitVec 1 := Scalar.cmpi .slt v2 c16_i32_398
  let v604 : BitVec 32 := Scalar.extui v603
  let c0_i32_399 : BitVec 32 := 0#32
  let v605 : BitVec 1 := Scalar.cmpi .ne v604 c0_i32_399
  v605

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_400 : BitVec 32 := 17#32
  let v606 : BitVec 1 := Scalar.cmpi .slt v2 c17_i32_400
  let v607 : BitVec 32 := Scalar.extui v606
  let c0_i32_401 : BitVec 32 := 0#32
  let v608 : BitVec 1 := Scalar.cmpi .ne v607 c0_i32_401
  v608

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_402 : BitVec 32 := 18#32
  let v609 : BitVec 1 := Scalar.cmpi .slt v2 c18_i32_402
  let v610 : BitVec 32 := Scalar.extui v609
  let c0_i32_403 : BitVec 32 := 0#32
  let v611 : BitVec 1 := Scalar.cmpi .ne v610 c0_i32_403
  v611

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_404 : BitVec 32 := 19#32
  let v612 : BitVec 1 := Scalar.cmpi .slt v2 c19_i32_404
  let v613 : BitVec 32 := Scalar.extui v612
  let c0_i32_405 : BitVec 32 := 0#32
  let v614 : BitVec 1 := Scalar.cmpi .ne v613 c0_i32_405
  v614

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_406 : BitVec 32 := 20#32
  let v615 : BitVec 1 := Scalar.cmpi .slt v2 c20_i32_406
  let v616 : BitVec 32 := Scalar.extui v615
  let c0_i32_407 : BitVec 32 := 0#32
  let v617 : BitVec 1 := Scalar.cmpi .ne v616 c0_i32_407
  v617

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_408 : BitVec 32 := 21#32
  let v618 : BitVec 1 := Scalar.cmpi .slt v2 c21_i32_408
  let v619 : BitVec 32 := Scalar.extui v618
  let c0_i32_409 : BitVec 32 := 0#32
  let v620 : BitVec 1 := Scalar.cmpi .ne v619 c0_i32_409
  v620

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_410 : BitVec 32 := 22#32
  let v621 : BitVec 1 := Scalar.cmpi .slt v2 c22_i32_410
  let v622 : BitVec 32 := Scalar.extui v621
  let c0_i32_411 : BitVec 32 := 0#32
  let v623 : BitVec 1 := Scalar.cmpi .ne v622 c0_i32_411
  v623

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_412 : BitVec 32 := 23#32
  let v624 : BitVec 1 := Scalar.cmpi .slt v2 c23_i32_412
  let v625 : BitVec 32 := Scalar.extui v624
  let c0_i32_413 : BitVec 32 := 0#32
  let v626 : BitVec 1 := Scalar.cmpi .ne v625 c0_i32_413
  v626

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_414 : BitVec 32 := 24#32
  let v627 : BitVec 1 := Scalar.cmpi .slt v2 c24_i32_414
  let v628 : BitVec 32 := Scalar.extui v627
  let c0_i32_415 : BitVec 32 := 0#32
  let v629 : BitVec 1 := Scalar.cmpi .ne v628 c0_i32_415
  v629

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_416 : BitVec 32 := 25#32
  let v630 : BitVec 1 := Scalar.cmpi .slt v2 c25_i32_416
  let v631 : BitVec 32 := Scalar.extui v630
  let c0_i32_417 : BitVec 32 := 0#32
  let v632 : BitVec 1 := Scalar.cmpi .ne v631 c0_i32_417
  v632

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_418 : BitVec 32 := 26#32
  let v633 : BitVec 1 := Scalar.cmpi .slt v2 c26_i32_418
  let v634 : BitVec 32 := Scalar.extui v633
  let c0_i32_419 : BitVec 32 := 0#32
  let v635 : BitVec 1 := Scalar.cmpi .ne v634 c0_i32_419
  v635

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_420 : BitVec 32 := 27#32
  let v636 : BitVec 1 := Scalar.cmpi .slt v2 c27_i32_420
  let v637 : BitVec 32 := Scalar.extui v636
  let c0_i32_421 : BitVec 32 := 0#32
  let v638 : BitVec 1 := Scalar.cmpi .ne v637 c0_i32_421
  v638

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_422 : BitVec 32 := 28#32
  let v639 : BitVec 1 := Scalar.cmpi .slt v2 c28_i32_422
  let v640 : BitVec 32 := Scalar.extui v639
  let c0_i32_423 : BitVec 32 := 0#32
  let v641 : BitVec 1 := Scalar.cmpi .ne v640 c0_i32_423
  v641

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_424 : BitVec 32 := 29#32
  let v642 : BitVec 1 := Scalar.cmpi .slt v2 c29_i32_424
  let v643 : BitVec 32 := Scalar.extui v642
  let c0_i32_425 : BitVec 32 := 0#32
  let v644 : BitVec 1 := Scalar.cmpi .ne v643 c0_i32_425
  v644

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_426 : BitVec 32 := 30#32
  let v645 : BitVec 1 := Scalar.cmpi .slt v2 c30_i32_426
  let v646 : BitVec 32 := Scalar.extui v645
  let c0_i32_427 : BitVec 32 := 0#32
  let v647 : BitVec 1 := Scalar.cmpi .ne v646 c0_i32_427
  v647

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_428 : BitVec 32 := 31#32
  let v648 : BitVec 1 := Scalar.cmpi .slt v2 c31_i32_428
  let v649 : BitVec 32 := Scalar.extui v648
  let c0_i32_429 : BitVec 32 := 0#32
  let v650 : BitVec 1 := Scalar.cmpi .ne v649 c0_i32_429
  v650

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let c0_i32_434 : BitVec 32 := 0#32
  ![v2.toNat, 0, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S_, .bf16⟩
  | .hbm, ⟨2, _⟩ => ⟨S512, .bf16⟩
  | .hbm, ⟨3, _⟩ => ⟨S_, .bf16⟩
  | .hbm, ⟨4, _⟩ => ⟨S16384x512, .bf16⟩
  | .hbm, ⟨5, _⟩ => ⟨S_, .i32⟩
  | .hbm, ⟨6, _⟩ => ⟨S16384x512, .bf16⟩
  | .hbm, ⟨7, _⟩ => ⟨S_, .i32⟩
  | .hbm, ⟨8, _⟩ => ⟨S512, .bf16⟩
  | .hbm, ⟨9, _⟩ => ⟨S16384x512, .bf16⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .bf16⟩
  | .hbm, ⟨14, _⟩ => ⟨S512, .bf16⟩
  | .hbm, ⟨15, _⟩ => ⟨S512, .bf16⟩
  | .hbm, ⟨16, _⟩ => ⟨S1x512, .bf16⟩
  | .hbm, ⟨17, _⟩ => ⟨S_, .i32⟩
  | .hbm, ⟨18, _⟩ => ⟨S16384x512, .bf16⟩
  | .hbm, ⟨19, _⟩ => ⟨S_, .i32⟩
  | .hbm, ⟨20, _⟩ => ⟨S_, .i32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 16384#32, 1#32⟩
-- ==== Proof.Protocol.lean ====
/-
The hand-shake and the copies of the sharded cumulative product, written down as a schedule of rounds.

There are 32 devices. Each has a barrier cell, 32 send cells and 32 receive cells, and a buffer of 32 slots.
Device `e` tells every other device that it has entered: one unit to that device's barrier cell. With the unit that goes
to a device before it (`c < e`), `e` hands over its slot `c`: the slot into which `c` will copy its row of products.
After its 31 units device `c` copies its row into slot `c` of each device `e` after it; the copy pays `e`'s receive cell `c`
(the slot, filled) and `c`'s send cell `e` (the share of the row that the copy read).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the staging pipeline's rounds, and this kernel's, whose duties are named by a device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and semaphores -/

/-- The row a device sends. -/
abbrev rowM : Memref sig .tc .vmem S1x512 .bf16 := Memref.whole cc0_scratch0
/-- The 32 slots. -/
abbrev slotsM : Memref sig .tc .vmem S32x1x512 .bf16 := Memref.whole cc0_scratch1

/-- The slot at an offset of the buffer. -/
abbrev slotO (off : Fin 3 → Nat) (h : ∀ a, off a + S1x1x512.size a ≤ S32x1x512.size a) : Memref sig .tc .vmem S1x512 .bf16 :=
  (slotsM.slice (Rect.unit (s := S32x1x512) off S1x1x512.size h) (fun _ => rfl)).squeeze S1x512 squeezes_S1x1x512_S1x512

/-- One semaphore of an array of 32, at an offset. -/
abbrev semO (a : DmaSems sig S32) (off : Fin 1 → Nat) (h : ∀ x, off x + S1.size x ≤ S32.size x) : DmaSem sig :=
  ((a.slice (Rect.unit (s := S32) off S1.size h)).squeeze S_ squeezes_S1_S_).sem

theorem slot_inb (j : Dev nD) : ∀ a, (![j.val, 0, 0] : Fin 3 → Nat) a + S1x1x512.size a ≤ S32x1x512.size a := by
  revert j; decide
theorem sem_inb (j : Dev nD) : ∀ a, (![j.val] : Fin 1 → Nat) a + S1.size a ≤ S32.size a := by
  revert j; decide

/-- Slot `j`. -/
abbrev slotV (j : Dev nD) : Memref sig .tc .vmem S1x512 .bf16 := slotO ![j.val, 0, 0] (slot_inb j)

abbrev barS : Sem sig := (SemArray.scalar (sig.barrier 0 rfl) : Sems sig S_).sem
abbrev sendS (j : Dev nD) : DmaSem sig := semO cc0_scratch2 ![j.val] (sem_inb j)
abbrev recvS (j : Dev nD) : DmaSem sig := semO cc0_scratch3 ![j.val] (sem_inb j)

/-- The kernel's own semaphores: the 32 of the sends and the 32 of the receives; -/
abbrev osem : Dev nD ⊕ Dev nD → SemLoc sig
  | .inl j => .dma (sendS j)
  | .inr j => .dma (recvS j)
/-- and with the barrier semaphore before them. -/
abbrev csem : Unit ⊕ (Dev nD ⊕ Dev nD) → SemLoc sig
  | .inl _ => .reg barS
  | .inr k => osem k
abbrev KI : Type := Unit ⊕ (Dev nD ⊕ Dev nD)
abbrev kcell (ck : Dev nD × KI) : GSem nD τ sig := ((ck.1 : Thread nD τ), csem ck.2)

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

theorem ownSemFacts : Pipeline.OwnSemFacts cfg0.spec osem := by decide +kernel

/-- The semaphores of a device are distinct. -/
theorem csem_injective : Function.Injective csem := by
  rintro (a | a) (b | b) h
  · rfl
  · rcases b with b | b <;> cases h
  · rcases a with a | a <;> cases h
  · exact congrArg Sum.inr (ownSemFacts.inj h)

theorem kcell_injective : Function.Injective (kcell : Dev nD × KI → GSem nD τ sig) := by
  rintro ⟨c, k⟩ ⟨c', k'⟩ h
  have h1 : c = c' := congrArg (fun g : GSem nD τ sig => g.1.1) h
  exact Prod.ext h1 (csem_injective (congrArg Prod.snd h))

theorem send_inj {a b : Dev nD} (h : (SemLoc.dma (sendS a) : SemLoc sig) = .dma (sendS b)) : a = b :=
  Sum.inl_injective (ownSemFacts.inj (a₁ := .inl a) (a₂ := .inl b) h)
theorem recv_inj {a b : Dev nD} (h : (SemLoc.dma (recvS a) : SemLoc sig) = .dma (recvS b)) : a = b :=
  Sum.inr_injective (ownSemFacts.inj (a₁ := .inr a) (a₂ := .inr b) h)
theorem send_ne_recv (a b : Dev nD) : (SemLoc.dma (sendS a) : SemLoc sig) ≠ .dma (recvS b) :=
  fun h => Sum.inl_ne_inr (ownSemFacts.inj (a₁ := .inl a) (a₂ := .inr b) h)
theorem dma_ne_bar (q : DmaSem sig) : (SemLoc.dma q : SemLoc sig) ≠ .reg barS := fun h => by cases h

/-! ## What a copy moves -/

/-- What one copy credits. -/
abbrev N : ℕ := (rowM : Memref sig .tc .vmem S1x512 .bf16).view.dmaCredit
theorem N_pos : 0 < N := View.dmaCredit_pos _ (by decide)
theorem slot_credit (off : Fin 3 → Nat) (h) : (slotO off h).view.dmaCredit = N := by
  show (slotsM.view.ref.dmaCredit S1x512 .bf16) = (rowM.view.ref.dmaCredit S1x512 .bf16)
  decide

/-! ## Contents -/

-- the row of products each device sends
variable (T : Dev nD → (S1x512.Idx → Elt F .bf16))

/-- A share of device `c`'s row, holding its products. -/
def rowPts (c : Dev nD) (q : PosShare TreeShare) : sProp 𝕄 :=
  rowM.view.loc (c : Thread nD τ) ↦[rowM.view.set]{q} (show Buf (Elt F) (rowM.view.loc (c : Thread nD τ)) from T c)
/-- Slot `j` of device `d`, at some contents. -/
def slotAny (d j : Dev nD) : sProp 𝕄 :=
  iprop(∃ f : Buf (Elt F) ((slotV j).view.loc (d : Thread nD τ)), ((slotV j).view.loc (d : Thread nD τ) ↦[(slotV j).view.set]{fullShare} f))
/-- Slot `j` of device `d`, holding device `j`'s products. -/
def slotFull (d j : Dev nD) : sProp 𝕄 := owns (d : Thread nD τ) (slotV j) fullShare (T j)

/-- The share of the row that the copy to device `j` reads. -/
abbrev leafOf (j : Dev nD) : PosShare TreeShare := ShareLeaves.leaf 5 fullShare j

omit [FloatOps F] in
instance rowPts_storable (c : Dev nD) (q) : BI.Storable (upEmb : UEmb _ 𝕄) (rowPts (F := F) T c q) := by unfold rowPts; infer_instance
omit [FloatOps F] in
instance slotAny_storable (d j : Dev nD) : BI.Storable (upEmb : UEmb _ 𝕄) (slotAny (F := F) d j) := by unfold slotAny; infer_instance
omit [FloatOps F] in
instance slotFull_storable (d j : Dev nD) : BI.Storable (upEmb : UEmb _ 𝕄) (slotFull (F := F) T d j) := by unfold slotFull; infer_instance

omit [FloatOps F] in
theorem slotFull_any (d j : Dev nD) : slotFull T d j ⊢ slotAny (F := F) d j := by
  unfold slotFull slotAny owns
  iintro ⟨%f, -, H⟩
  iexists f; iexact H

/-! ## The schedule -/

/-- One round. A barrier cell has a duty from every other device, of one unit; receive cell `j` of device `c` one from `j`, if `j < c`;
    send cell `j` of device `c` one named `j`, if `c < j`. -/
def sched : Rounds.Schedule (GSem nD τ sig) (Dev nD) 𝕄 where
  duties g r := if r = 0 ∧ g.1.2 = .tc then Finset.univ.filter fun d : Dev nD =>
      (g.2 = .reg barS ∧ d ≠ g.1.1) ∨ (g.2 = .dma (recvS d) ∧ d < g.1.1) ∨ (g.2 = .dma (sendS d) ∧ g.1.1 < d) else ∅
  unitless _ := False
  amount g _ _ := if g.2 = .reg barS then 1 else N
  payload g _ d :=
    if g.2 = .reg barS then (if g.1.1 < d then slotAny d g.1.1 else iprop(emp))
    else if g.2 = .dma (recvS d) then slotFull T g.1.1 d
    else if g.2 = .dma (sendS d) then rowPts T g.1.1 (leafOf d)
    else iprop(emp)
  amount_pos g _ _ _ := by
    by_cases h : g.2 = .reg barS
    · rw [if_pos h]; exact Nat.one_pos
    · rw [if_neg h]; exact N_pos

omit [FloatOps F] in
instance sched_payload_storable (g : GSem nD τ sig) (r : ℕ) (d : Dev nD) :
    BI.Storable (upEmb : UEmb _ 𝕄) ((sched (F := F) T).payload g r d) := by
  show BI.Storable upEmb (if g.2 = .reg barS then (if g.1.1 < d then slotAny d g.1.1 else iprop(emp))
    else if g.2 = .dma (recvS d) then slotFull T g.1.1 d
    else if g.2 = .dma (sendS d) then rowPts T g.1.1 (leafOf d) else iprop(emp))
  (repeat' split) <;> infer_instance

section Sched
variable (c j : Dev nD)

omit [FloatOps F] in
theorem duties_bar : (sched (F := F) T).duties (barCell c) 0 = Finset.univ.erase c := by
  dsimp only [sched]; rw [if_pos ⟨rfl, rfl⟩]
  ext d; simp
omit [FloatOps F] in
theorem duties_recv (h : j < c) : (sched (F := F) T).duties (recvCell c j) 0 = {j} := by
  dsimp only [sched]; rw [if_pos ⟨rfl, rfl⟩]
  ext d
  simp only [Finset.mem_filter, Finset.mem_univ, true_and, Finset.mem_singleton]
  constructor
  · rintro (h' | h' | h')
    · exact absurd h'.1 (dma_ne_bar _)
    · exact (recv_inj h'.1).symm
    · exact absurd h'.1.symm (send_ne_recv _ _)
  · rintro rfl; exact .inr (.inl ⟨rfl, h⟩)
omit [FloatOps F] in
theorem duties_send (h : c < j) : (sched (F := F) T).duties (sendCell c j) 0 = {j} := by
  dsimp only [sched]; rw [if_pos ⟨rfl, rfl⟩]
  ext d
  simp only [Finset.mem_filter, Finset.mem_univ, true_and, Finset.mem_singleton]
  constructor
  · rintro (h' | h' | h')
    · exact absurd h'.1 (dma_ne_bar _)
    · exact absurd h'.1 (send_ne_recv _ _)
    · exact (send_inj h'.1).symm
  · rintro rfl; exact .inr (.inr ⟨rfl, h⟩)
omit [FloatOps F] in
/-- A receive cell of a device for itself or a later one has no duty at all, -/
theorem duties_recv_none (h : ¬ j < c) (r : ℕ) : (sched (F := F) T).duties (recvCell c j) r = ∅ := by
  dsimp only [sched]
  split
  · refine Finset.filter_eq_empty_iff.mpr fun d _ => ?_
    rintro (h' | h' | h')
    · exact absurd h'.1 (dma_ne_bar _)
    · exact h (recv_inj h'.1 ▸ h'.2)
    · exact absurd h'.1.symm (send_ne_recv _ _)
  · rfl
omit [FloatOps F] in
/-- nor has a send cell for itself or an earlier one, -/
theorem duties_send_none (h : ¬ c < j) (r : ℕ) : (sched (F := F) T).duties (sendCell c j) r = ∅ := by
  dsimp only [sched]
  split
  · refine Finset.filter_eq_empty_iff.mpr fun d _ => ?_
    rintro (h' | h' | h')
    · exact absurd h'.1 (dma_ne_bar _)
    · exact absurd h'.1 (send_ne_recv _ _)
    · exact h (send_inj h'.1 ▸ h'.2)
  · rfl
omit [FloatOps F] in
/-- nor has any cell after the first round. -/
theorem duties_later (g : GSem nD τ sig) : ∀ r, 1 ≤ r → (sched (F := F) T).duties g r = ∅ :=
  fun r hr => by dsimp only [sched]; rw [if_neg fun h => by omega]

omit [FloatOps F] in
theorem amount_bar (d : Dev nD) : (sched (F := F) T).amount (barCell c) 0 d = 1 := by dsimp only [sched]; exact if_pos rfl
omit [FloatOps F] in
theorem amount_dma (q : DmaSem sig) (d : Dev nD) : (sched (F := F) T).amount ((c : Thread nD τ), .dma q) 0 d = N := by
  dsimp only [sched]; exact if_neg (dma_ne_bar q)

omit [FloatOps F] in
theorem expect_bar : (sched (F := F) T).expect (barCell c) 0 = 31 := by
  unfold Schedule.expect Schedule.amountOf
  rw [duties_bar, Finset.sum_congr rfl fun d _ => amount_bar T c d, Finset.sum_const, Finset.card_erase_of_mem (Finset.mem_univ _), Finset.card_univ,
    Fintype.card_fin, smul_eq_mul]
  rfl
omit [FloatOps F] in
theorem expect_recv (h : j < c) : (sched (F := F) T).expect (recvCell c j) 0 = N := by
  unfold Schedule.expect Schedule.amountOf; rw [duties_recv T c j h, Finset.sum_singleton, amount_dma]
omit [FloatOps F] in
theorem expect_send (h : c < j) : (sched (F := F) T).expect (sendCell c j) 0 = N := by
  unfold Schedule.expect Schedule.amountOf; rw [duties_send T c j h, Finset.sum_singleton, amount_dma]

/-- What device `e`'s unit hands device `c`. -/
def barPay (c e : Dev nD) : sProp 𝕄 := if c < e then slotAny e c else iprop(emp)

omit [FloatOps F] in
theorem payload_bar (e : Dev nD) : (sched (F := F) T).payload (barCell c) 0 e = barPay c e := by dsimp only [sched]; exact if_pos rfl
omit [FloatOps F] in
theorem payload_recv : (sched (F := F) T).payload (recvCell c j) 0 j = slotFull T c j := by
  dsimp only [sched]; rw [if_neg (dma_ne_bar _), if_pos rfl]
omit [FloatOps F] in
theorem payload_send : (sched (F := F) T).payload (sendCell c j) 0 j = rowPts T c (leafOf j) := by
  dsimp only [sched]; rw [if_neg (dma_ne_bar _), if_neg (send_ne_recv _ _), if_pos rfl]

omit [FloatOps F] in
theorem rest_bar : bigSep ((sched (F := F) T).duties (barCell c) 0 \ ∅) (fun e => (sched (F := F) T).payload (barCell c) 0 e)
    = bigSep (Finset.univ.erase c) fun e => barPay c e := by
  rw [Finset.sdiff_empty, duties_bar]; exact bigSep_congr fun e _ => payload_bar T c e
omit [FloatOps F] in
theorem rest_recv (h : j < c) : bigSep ((sched (F := F) T).duties (recvCell c j) 0 \ ∅) (fun e => (sched (F := F) T).payload (recvCell c j) 0 e)
    = slotFull T c j := by
  rw [Finset.sdiff_empty, duties_recv T c j h, bigSep_singleton, payload_recv]
omit [FloatOps F] in
theorem rest_send (h : c < j) : bigSep ((sched (F := F) T).duties (sendCell c j) 0 \ ∅) (fun e => (sched (F := F) T).payload (sendCell c j) 0 e)
    = rowPts T c (leafOf j) := by
  rw [Finset.sdiff_empty, duties_send T c j h, bigSep_singleton, payload_send]

end Sched

/-! ## What a device owes -/

/-- Device `c`'s copies to the devices from `n` on: each owes the target's receive cell `c` what a copy credits. -/
def owedSend (c : Dev nD) (n : ℕ) : CellTallies nD τ sig Unit :=
  ∑ j : Dev nD, if n ≤ j.val ∧ c < j then tallyAt (recvCell j c) () N else 0
/-- Device `c`'s units to the devices `n`, `n + 1`, … places after it around the 32. -/
def owedSig (c : Dev nD) (n : ℕ) : CellTallies nD τ sig Unit :=
  ∑ k : Dev nD, if n ≤ k.val then tallyAt (barCell (c + k)) () 1 else 0
/-- What device `c` owes when the units from `n` on are still to go out. -/
def owedBar (c : Dev nD) (n : ℕ) : CellTallies nD τ sig Unit := owedSend c 0 + owedSig c n
/-- At launch: 31 units and the copies. -/
def O₀ (c : Dev nD) : CellTallies nD τ sig Unit := owedBar c 1

/-- A sum over the devices from `k` on is the one from `k + 1` on and the term at `k`. -/
theorem sum_from {A : Type} [AddCommMonoid A] (f : Dev nD → A) (k : Dev nD) :
    (∑ j : Dev nD, if k.val ≤ j.val then f j else 0) = (∑ j : Dev nD, if k.val + 1 ≤ j.val then f j else 0) + f k := by
  rw [← Finset.add_sum_erase _ _ (Finset.mem_univ k), if_pos le_rfl, add_comm]
  congr 1
  rw [← Finset.add_sum_erase (a := k) _ _ (Finset.mem_univ k), if_neg (by omega), zero_add]
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]

theorem owedBar_step (c k : Dev nD) : owedBar c k.val = owedBar c (k.val + 1) + tallyAt (barCell (c + k)) () 1 := by
  unfold owedBar owedSig; rw [sum_from, add_assoc]
theorem owedBar_last (c : Dev nD) : owedBar c 32 = owedSend c 0 := by
  unfold owedBar owedSig
  rw [Finset.sum_eq_zero (fun k _ => if_neg (by have : k.val < 32 := k.isLt; omega)), add_zero]
theorem owedSend_form (c : Dev nD) (n : ℕ) :
    owedSend c n = ∑ j : Dev nD, if n ≤ j.val then (if c < j then tallyAt (recvCell j c) () N else 0) else 0 := by
  unfold owedSend; exact Finset.sum_congr rfl fun j _ => by rw [ite_and]
theorem owedSend_step (c j : Dev nD) :
    owedSend c j.val = owedSend c (j.val + 1) + (if c < j then tallyAt (recvCell j c) () N else 0) := by
  rw [owedSend_form, owedSend_form, sum_from]
theorem owedSend_last (c : Dev nD) : owedSend c 32 = 0 := by
  unfold owedSend
  exact Finset.sum_eq_zero (fun k _ => if_neg (fun h => by have : k.val < 32 := k.isLt; omega))

/-! ## Levels: the staging and send cells below, then the barrier, then the receives -/

def L (g : GSem nD τ sig) : Finset Unit := if g.1.2 = .tc then {()} else ∅
def lv (g : GSem nD τ sig) (_ : Unit) : ℕ := if g.2 = .reg barS then 1 else if ∃ j : Dev nD, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c j : Dev nD) : lv (recvCell c j) () = 2 := by unfold lv; rw [if_neg (dma_ne_bar _), if_pos ⟨j, rfl⟩]

/-- A cell at which a sum of tallies owes is a cell at which one of them does. -/
theorem tally_sum_pos {f : Dev nD → CellTallies nD τ sig Unit} {g : GSem nD τ sig} {u : Unit} (h : 0 < (∑ j, f j) g u) : ∃ j, 0 < f j g u := by
  by_contra hn
  push Not at hn
  rw [Finset.sum_apply, Finsupp.finset_sum_apply, Finset.sum_eq_zero fun j _ => Nat.le_zero.mp (hn j)] at h
  exact Nat.lt_irrefl 0 h
theorem tallyAt_pos {g g' : GSem nD τ sig} {u : Unit} {k : ℕ} (h : 0 < (tallyAt g () k : CellTallies nD τ sig Unit) g' u) : g' = g := by
  rw [tallyAt_apply] at h
  by_contra hn
  rw [if_neg fun h' => hn h'.1] at h
  exact Nat.lt_irrefl 0 h

theorem owedSend_pos {c : Dev nD} {n : ℕ} {g : GSem nD τ sig} {u : Unit} (h : 0 < owedSend c n g u) : ∃ j, g = recvCell j c := by
  obtain ⟨j, hj⟩ := tally_sum_pos h
  split at hj
  · exact ⟨j, tallyAt_pos hj⟩
  · exact absurd hj (Nat.lt_irrefl 0)
theorem O₀_pos {c : Dev nD} {g : GSem nD τ sig} {u : Unit} (h : 0 < O₀ c g u) : (∃ j, g = recvCell j c) ∨ ∃ j, g = barCell j := by
  unfold O₀ owedBar at h
  rw [Pi.add_apply, Finsupp.add_apply] at h
  rcases Nat.add_pos_iff_pos_or_pos.mp h with h | h
  · exact .inl (owedSend_pos h)
  · obtain ⟨j, hj⟩ := tally_sum_pos h
    split at hj
    · exact .inr ⟨_, tallyAt_pos hj⟩
    · exact absurd hj (Nat.lt_irrefl 0)

omit [FloatOps F] in
/-- A device may wait on a staging cell, whatever it owes: that is above. -/
theorem mayWait_stage (c : Dev nD) (q : DmaSem sig) (hq : ∀ j, SemLoc.dma q ≠ .dma (recvS j)) (O : CellTallies nD τ sig Unit) (hO : O = O₀ c ∨ O = 0) :
    (levAts L lv : sProp 𝕄) ⊢ MayWait (c : Thread nD τ) (.dma q) () O := by
  rcases hO with rfl | rfl
  · have hlow : lv ((c : Thread nD τ), SemLoc.dma q) () = 0 := by
      unfold lv; rw [if_neg (dma_ne_bar _), if_neg fun ⟨j, h⟩ => hq j h]
    refine MayOwe.of_cut (L := L) (lev := lv) 0 (fun p hp => by rw [Finset.mem_singleton.mp hp, L_tc]; exact Finset.mem_singleton_self _)
      (fun g u hg => ?_) (fun p hp => by rw [Finset.mem_singleton.mp hp]; exact hlow.le) (fun g u hg => ?_)
    · rcases O₀_pos hg with ⟨j, rfl⟩ | ⟨j, rfl⟩ <;> exact Finset.mem_singleton_self _
    · rcases O₀_pos hg with ⟨j, rfl⟩ | ⟨j, rfl⟩
      · rw [lv_recv]; decide
      · rw [lv_bar]; decide
  · rw [MayWait_zero]; iintro -; iempintro

omit [FloatOps F] in
/-- At its barrier wait a device owes its copies only: receive cells, which are above. -/
theorem mayWait_bar (c : Dev nD) : (levAts L lv : sProp 𝕄) ⊢ MayWait (c : Thread nD τ) (.reg barS) () (owedSend c 0) :=
  MayOwe.of_cut (L := L) (lev := lv) 1 (fun p hp => by rw [Finset.mem_singleton.mp hp, L_tc]; exact Finset.mem_singleton_self _)
    (fun g u hg => by obtain ⟨j, rfl⟩ := owedSend_pos hg; exact Finset.mem_singleton_self _)
    (fun p hp => by rw [Finset.mem_singleton.mp hp]; exact (lv_bar c).le)
    (fun g u hg => by obtain ⟨j, rfl⟩ := owedSend_pos hg; rw [lv_recv]; decide)

end Cert.CumProd

end
-- ==== Proof.Steps.lean ====
/-
What each kind of statement of the kernel does, once, at any device and any index: a unit to another device's barrier,
the barrier wait, a guarded copy, a guarded receive wait with the load after it, a guarded send wait.
-/
module

public import proofs.«01_k».proof.Proof.Protocol

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's programs. -/
abbrev Pg (F : FTy → Type) [FloatOps F] (α : Type) : Type 1 := Prog (TpuEff nD τ sig (Elt F) Λ₀ .tc) α

/-- The weakest precondition of a program of device `c`'s TensorCore. -/
abbrev WP (c : Dev nD) {α : Type} (P : Pg F α) (Q : α → sProp 𝕄) : sProp 𝕄 :=
  wp frame (wpE (defs₀ (F := F)) 𝒱₀ (c : Thread nD τ) none) Set.univ P Q

/-! ## A resource per index, the first `n` of which have moved on -/

def up (A B : Dev nD → sProp 𝕄) (n : ℕ) : sProp 𝕄 := bigSep Finset.univ fun j : Dev nD => if j.val < n then A j else B j

omit [FloatOps F] in
theorem up_rest (A B : Dev nD → sProp 𝕄) (k : Dev nD) :
    (bigSep (Finset.univ.erase k) fun j : Dev nD => if j.val < k.val then A j else B j)
      = bigSep (Finset.univ.erase k) fun j : Dev nD => if j.val < k.val + 1 then A j else B j :=
  bigSep_congr fun j hj => by
    have hne : j.val ≠ k.val := fun h => (Finset.mem_erase.mp hj).1 (Fin.ext h)
    by_cases h : j.val < k.val
    · rw [if_pos h, if_pos (by omega)]
    · rw [if_neg h, if_neg (by omega)]
omit [FloatOps F] in
theorem up_at (A B : Dev nD → sProp 𝕄) (k : Dev nD) :
    up A B k.val = iprop(B k ∗ bigSep (Finset.univ.erase k) fun j : Dev nD => if j.val < k.val then A j else B j) := by
  unfold up; rw [bigSep_erase (Finset.mem_univ k), if_neg (Nat.lt_irrefl _)]; rfl
omit [FloatOps F] in
theorem up_succ_at (A B : Dev nD → sProp 𝕄) (k : Dev nD) :
    up A B (k.val + 1) = iprop(A k ∗ bigSep (Finset.univ.erase k) fun j : Dev nD => if j.val < k.val then A j else B j) := by
  unfold up; rw [bigSep_erase (Finset.mem_univ k), if_pos (Nat.lt_succ_self _), ← up_rest]; rfl
omit [FloatOps F] in
/-- The next index's resource is taken out and put back moved on, -/
theorem up_take (A B : Dev nD → sProp 𝕄) (k : Dev nD) : up A B k.val ⊢ iprop(B k ∗ (A k -∗ up A B (k.val + 1))) := by
  rw [up_at, up_succ_at]
  iintro ⟨HB, H⟩
  isplitl [HB]; · iexact HB
  iintro HA
  isplitl [HA]; · iexact HA
  iexact H
omit [FloatOps F] in
/-- or the last one's put back moved back. -/
theorem up_back (A B : Dev nD → sProp 𝕄) (k : Dev nD) : up A B (k.val + 1) ⊢ iprop(A k ∗ (B k -∗ up A B k.val)) := by
  rw [up_at, up_succ_at]
  iintro ⟨HA, H⟩
  isplitl [HA]; · iexact HA
  iintro HB
  isplitl [HB]; · iexact HB
  iexact H
omit [FloatOps F] in
theorem up_zero (A B : Dev nD → sProp 𝕄) : up A B 0 = bigSep Finset.univ B := by
  unfold up; exact bigSep_congr fun j _ => if_neg (Nat.not_lt_zero _)
omit [FloatOps F] in
theorem up_all (A B : Dev nD → sProp 𝕄) : up A B 32 = bigSep Finset.univ A := by
  unfold up; exact bigSep_congr fun j _ => if_pos j.isLt

/-! ## What all devices know, and what one holds -/

variable (T : Dev nD → (S1x512.Idx → Elt F .bf16))

/-- Every cell's invariant, at the names `K`, and that every cell has reached its first round. -/
def records (K : Dev nD × KI → ℕ) : sProp 𝕄 :=
  iprop((bigSep Finset.univ fun ck : Dev nD × KI => cellInv ER (sched T) (K ck) (kcell ck))
    ∗ bigSep Finset.univ fun ck : Dev nD × KI => reached ER (kcell ck) 0)

omit [FloatOps F] in
instance records_persistent (K : Dev nD × KI → ℕ) : BI.Persistent (records (F := F) T K) := by unfold records; infer_instance

omit [FloatOps F] in
theorem inv_of (K : Dev nD × KI → ℕ) (ck : Dev nD × KI) : records T K ⊢ cellInv ER (sched (F := F) T) (K ck) (kcell ck) := by
  unfold records; iintro ⟨H, -⟩
  iapply (show (bigSep Finset.univ fun ck : Dev nD × KI => (cellInv ER (sched T) (K ck) (kcell ck) : sProp 𝕄)) ⊢ cellInv ER (sched T) (K ck) (kcell ck)
    from bigSep_elim (Finset.mem_univ ck))
  iexact H
omit [FloatOps F] in
theorem reached_of (K : Dev nD × KI → ℕ) (ck : Dev nD × KI) : records T K ⊢ (reached ER (kcell ck) 0 : sProp 𝕄) := by
  unfold records; iintro ⟨-, H⟩
  iapply (show (bigSep Finset.univ fun ck : Dev nD × KI => (reached ER (kcell ck) 0 : sProp 𝕄)) ⊢ reached ER (kcell ck) 0
    from bigSep_elim (Finset.mem_univ ck))
  iexact H

abbrev sIx (j : Dev nD) : KI := .inr (.inl j)
abbrev rIx (j : Dev nD) : KI := .inr (.inr j)
abbrev bIx : KI := .inl ()

/-- What device `c` owes, at some record of its waits. -/
def owesSome (c : Dev nD) (O : CellTallies nD τ sig Unit) : sProp 𝕄 := iprop(∃ W : Waits sig Unit, owes (c : Thread nD τ) O W)

/-- Towards the unit to the device `k` places on: the duty's token, and the slot that goes with it. -/
def sigB (c k : Dev nD) : sProp 𝕄 := iprop(dutyTok ER (barCell (c + k)) 0 c ∗ barPay (c + k) c)

/-- Towards the copy to device `j`: the share of the row it reads, the send cell's position and, if there is such a copy, the target
    slot and the tokens of the two duties it pays; -/
def sendB (c j : Dev nD) : sProp 𝕄 :=
  iprop(atPos ER (sendCell c j) 0 ∅ 0 ∗ rowPts T c (leafOf j)
    ∗ if c < j then iprop(slotAny j c ∗ dutyTok ER (sendCell c j) 0 j ∗ dutyTok ER (recvCell j c) 0 c) else iprop(emp))
/-- after it: the send cell's credit, or the share still; -/
def sendA (c j : Dev nD) : sProp 𝕄 :=
  iprop(atPos ER (sendCell c j) 0 ∅ 0 ∗ if c < j then cred (tallyAt (sendCell c j) () N) else rowPts T c (leafOf j))
/-- after the wait for it: the share, and the send cell closed. -/
def sendC (c j : Dev nD) : sProp 𝕄 := iprop(rowPts T c (leafOf j) ∗ semVal (sendCell c j) 0)

/-- Towards device `j`'s row: the receive cell's position and its credit, or the slot if none is coming; -/
def recvB (c j : Dev nD) : sProp 𝕄 :=
  iprop(atPos ER (recvCell c j) 0 ∅ 0 ∗ if j < c then cred (tallyAt (recvCell c j) () N) else slotAny c j)
/-- after the wait for it: the slot, and the receive cell closed. -/
def recvA (c j : Dev nD) : sProp 𝕄 := iprop(slotAny c j ∗ semVal (recvCell c j) 0)

/-! ## The kernel's conditions -/

/-- A device's number as the kernel computes it. -/
abbrev myi (c : Dev nD) : BitVec 32 := Scalar.remsi (Scalar.divsi (Dev.word c) 1#32) 32#32

theorem cond_lt (c j : Dev nD) :
    (Scalar.cmpi .ne (Scalar.extui (Scalar.cmpi .slt (myi c) (BitVec.ofNat 32 j.val)) : BitVec 32) 0#32 = 1#1) ↔ c < j := by
  revert c j; decide +kernel
theorem cond_gt (c j : Dev nD) :
    (Scalar.cmpi .ne (Scalar.extui (Scalar.cmpi .sgt (myi c) (BitVec.ofNat 32 j.val)) : BitVec 32) 0#32 = 1#1) ↔ j < c := by
  revert c j; decide +kernel
theorem cmp_gt (c j : Dev nD) : (Scalar.cmpi .sgt (myi c) (BitVec.ofNat 32 j.val) = 1#1) ↔ j < c := by
  revert c j; decide +kernel

theorem ne_add (c k : Dev nD) : k ≠ 0 → c ≠ c + k := by revert c k; decide +kernel

/-! ## The statements -/

section Stmts
variable (K : Dev nD × KI → ℕ) (c : Dev nD) {α : Type}

/-- A unit to the barrier of the device `k` places on. -/
theorem sig_step (k : Dev nD) (hk : k ≠ 0) {dv : Nat} (hdv : dv = (c.val + k.val) % 32) {hlt : dv < nD} {n n' : ℕ} (hn : n = k.val) (hn' : n' = k.val + 1)
    {P : Pg F α} {Q : α → sProp 𝕄} :
    iprop(records T K ∗ owesSome c (owedBar c n) ∗ up (fun _ => iprop(emp)) (sigB c) n)
      ⊢ iprop(((owesSome c (owedBar c n') ∗ up (fun _ => iprop(emp)) (sigB c) n') -∗ WP c P Q)
        -∗ WP c (semSignalWord (⟨dv, hlt⟩ : Dev nD) barS 1#32 >>= fun _ => P) Q) := by
  subst hn hn'
  have hd : (⟨dv, hlt⟩ : Dev nD) = c + k := Fin.ext hdv
  rw [hd]
  have hmem : c ∈ (sched (F := F) T).duties (barCell (c + k)) 0 := by
    rw [duties_bar, Finset.mem_erase]; exact ⟨ne_add c k hk, Finset.mem_univ _⟩
  unfold owesSome
  iintro ⟨#HR, ⟨%W, HO⟩, Hup⟩ Hk
  ihave Hup' := (up_take _ _ k) $$ Hup
  icases Hup' with ⟨Hs, Hput⟩
  unfold sigB
  icases Hs with ⟨Ht, Hp⟩
  simp only [semSignalWord, Prog.bind_op, Prog.bind_ret]
  iapply (Rounds.wp_signal 𝒱₀ ER (sched T) (c : Thread nD τ) none (dst := ((c + k : Dev nD) : Thread nD τ)) (κ := K (c + k, bIx))
      (d := c) (r := 0) hmem ((amount_bar T (c + k) c).trans (by decide)) () (owedBar c (k.val + 1)) (owedBar_step c k))
    $$ [HO Ht Hp]
  · isplitr; · iapply (inv_of T K (c + k, bIx)); iexact HR
    isplitl [HO]; · iexact HO
    isplitl [Ht]; · iexact Ht
    isplitl [Hp]; · rw [payload_bar]; iexact Hp
    iapply (reached_of T K (c + k, bIx)); iexact HR
  iintro HO
  iapply Hk
  isplitl [HO]; · iexists W; iexact HO
  iapply Hput
  iempintro

/-- The wait for the 31 units. -/
theorem bar_step {P : Pg F α} {Q : α → sProp 𝕄} :
    iprop(records T K ∗ levAts L lv ∗ owesSome c (owedSend c 0) ∗ atPos ER (barCell c) 0 ∅ 0 ∗ cred (tallyAt (barCell c) () 31))
      ⊢ iprop(((owesSome c (owedSend c 0) ∗ semVal (barCell c) 0 ∗ bigSep (Finset.univ.erase c) fun e => barPay c e) -∗ WP c P Q)
        -∗ WP c (semWaitWord barS 31#32 >>= fun _ => P) Q) := by
  unfold owesSome
  iintro ⟨#HR, #Hlev, ⟨%W, HO⟩, Hat, Hc⟩ Hk
  simp only [semWaitWord, Prog.bind_op, Prog.bind_ret]
  iapply (Rounds.wp_wait_rest_token 𝒱₀ ER (sched T) (c : Thread nD τ) none (κ := K (c, bIx))
      (wpE_semWait_eq 𝒱₀ (c : Thread nD τ) none Set.univ) (Set.mem_univ _) () (O := owedSend c 0) (W := W) (R := 0) (m := 0) (T := ∅)
      (by rw [expect_bar]; decide)) $$ [Hc HO Hat]
  · isplitr; · iapply (inv_of T K (c, bIx)); iexact HR
    isplitl [Hc]; · iexact Hc
    isplitl [HO]; · iexact HO
    isplitr; · iapply (mayWait_bar c); iexact Hlev
    iexact Hat
  iintro ⟨HO, Hat, -, Hpay⟩
  imod (Rounds.cell_close ER (sched T) (Set.mem_univ (K (c, bIx))) (fun h => h) (R := 0 + 1) (duties_later T (barCell c))) $$ [Hat] with Hz
  · isplitr; · iapply (inv_of T K (c, bIx)); iexact HR
    iexact Hat
  ihave Hp := (Entails.of_eq (rest_bar T c)) $$ Hpay
  iapply Hk
  isplitl [HO]; · iexists _; iexact HO
  isplitl [Hz]; · iexact Hz
  iexact Hp

/-- The guarded copy to device `j`. -/
theorem send_step (j : Dev nD) {cond : BitVec 1} (hc : cond = 1#1 ↔ c < j) {n n' : ℕ} (hn : n = j.val) (hn' : n' = j.val + 1)
    {offs : Fin 1 → Nat} (hoffs : offs = ![j.val]) {inbs : ∀ x, offs x + S1.size x ≤ S32.size x}
    {offr : Fin 1 → Nat} (hoffr : offr = ![c.val]) {inbr : cond = 1#1 → ∀ x, offr x + S1.size x ≤ S32.size x}
    {offd : Fin 3 → Nat} (hoffd : offd = ![c.val, 0, 0]) {inbd : cond = 1#1 → ∀ a, offd a + S1x1x512.size a ≤ S32x1x512.size a}
    {dv : Nat} (hdv : dv = j.val) {hlt : cond = 1#1 → dv < nD}
    {hsrc : rowM.view.WordExact} {hdst : ∀ h : cond = 1#1, (slotO offd (inbd h)).view.WordExact}
    {hsc : ∀ h : cond = 1#1, (slotO offd (inbd h)).view.ref.isScScratch = false}
    {hsem : ∀ h : cond = 1#1, DmaTarget.Typed .vmem (.dma (semO cc0_scratch3 offr (inbr h)))
      (.remote (Dev.tc (⟨dv, hlt h⟩ : Dev nD) : Thread nD τ) (slotO offd (inbd h)) (.dma (semO cc0_scratch2 offs inbs)) (hsc h))}
    {P : Pg F α} {Q : α → sProp 𝕄} :
    iprop(records T K ∗ owesSome c (owedSend c n) ∗ up (sendA T c) (sendB T c) n)
      ⊢ iprop(((owesSome c (owedSend c n') ∗ up (sendA T c) (sendB T c) n') -∗ WP c P Q)
        -∗ WP c (dite (cond = 1#1)
            (fun h => Prog.lift (.enqueueDma rowM (.remote (Dev.tc (⟨dv, hlt h⟩ : Dev nD)) (slotO offd (inbd h)) (.dma (semO cc0_scratch2 offs inbs)) (hsc h))
              (.dma (semO cc0_scratch3 offr (inbr h))) hsrc (hdst h) (hsem h)) >>= fun _ => P)
            (fun _ => P)) Q) := by
  subst hn hn' hoffs hoffr hoffd hdv
  unfold owesSome
  iintro ⟨#HR, ⟨%W, HO⟩, Hup⟩ Hk
  ihave Hup' := (up_take _ _ j) $$ Hup
  icases Hup' with ⟨Hs, Hput⟩
  by_cases h : cond = 1#1
  · rw [dif_pos h]
    have hlt' : c < j := hc.mp h
    unfold sendB sendA
    rw [if_pos hlt', if_pos hlt', owedSend_step, if_pos hlt']
    icases Hs with ⟨Hat, Hrow, Hslot, Ht1, Ht2⟩
    unfold slotAny
    icases Hslot with ⟨%fd, Hslot⟩
    simp only [Prog.lift, Prog.bind_op, Prog.bind_ret]
    unfold rowPts
    iapply (Rounds.wp_send_pointsTo 𝒱₀ ER (sched T) (c : Thread nD τ) none (c' := (j : Thread nD τ)) (src := rowM) (dst := slotV c)
        (sS := .dma (sendS j)) (sem := .dma (recvS c))
        (κ₁ := K (c, sIx j)) (κ₂ := K (j, rIx c))
        (r₁ := 0) (r₂ := 0) (d₁ := j) (d₂ := c) (fd := fd)
        (by rw [duties_send T c j hlt']; exact Finset.mem_singleton_self _) (by rw [duties_recv T j c hlt']; exact Finset.mem_singleton_self _)
        () () N (slot_credit ![c.val, 0, 0] (slot_inb c)) (amount_dma T c (sendS j) j) (amount_dma T j (recvS c) c) (owedSend c (j.val + 1)) rfl (W := W)
        (by rw [payload_send]; unfold rowPts; exact BI.Entails.refl _)
        (by
          rw [payload_recv]; unfold slotFull
          refine (owns_intro _ _ _ _).trans (Entails.of_eq ?_)
          rw [View.read_write_univ]; rfl))
      $$ [HO Hrow Hslot Ht1 Ht2]
    · isplitr; · iapply (inv_of T K (c, sIx j)); iexact HR
      isplitr; · iapply (inv_of T K (j, rIx c)); iexact HR
      isplitl [Hrow]; · iexact Hrow
      isplitl [Hslot]; · iexact Hslot
      isplitl [HO]; · iexact HO
      isplitl [Ht1]; · iexact Ht1
      isplitr; · iapply (reached_of T K (c, sIx j)); iexact HR
      isplitl [Ht2]; · iexact Ht2
      iapply (reached_of T K (j, rIx c)); iexact HR
    iintro ⟨Hcr, HO⟩
    iapply Hk
    isplitl [HO]; · iexists W; iexact HO
    iapply Hput
    isplitl [Hat]; · iexact Hat
    iexact Hcr
  · rw [dif_neg h]
    have hlt' : ¬ c < j := fun h' => h (hc.mpr h')
    unfold sendB sendA
    rw [if_neg hlt', if_neg hlt', owedSend_step, if_neg hlt', add_zero]
    icases Hs with ⟨Hat, Hrow, -⟩
    iapply Hk
    isplitl [HO]; · iexists W; iexact HO
    iapply Hput
    isplitl [Hat]; · iexact Hat
    iexact Hrow

/-- The guarded wait for the copy to device `j`. -/
theorem sent_step (j : Dev nD) {cond : BitVec 1} (hc : cond = 1#1 ↔ c < j) {n n' : ℕ} (hn : n = j.val) (hn' : n' = j.val + 1)
    {offs : Fin 1 → Nat} (hoffs : offs = ![j.val]) {inbs : ∀ x, offs x + S1.size x ≤ S32.size x}
    {offd : Fin 3 → Nat} {inbd : cond = 1#1 → ∀ a, offd a + S1x1x512.size a ≤ S32x1x512.size a}
    {hsrc : ∀ h : cond = 1#1, (slotO offd (inbd h)).view.WordExact} {hdst : rowM.view.WordExact}
    {P : Pg F α} {Q : α → sProp 𝕄} :
    iprop(records T K ∗ owesSome c 0 ∗ up (sendC T c) (sendA T c) n)
      ⊢ iprop(((owesSome c 0 ∗ up (sendC T c) (sendA T c) n') -∗ WP c P Q)
        -∗ WP c (dite (cond = 1#1)
            (fun h => Prog.lift (.waitDma2 (semO cc0_scratch2 offs inbs) (slotO offd (inbd h)) rowM (hsrc h) hdst) >>= fun _ => P)
            (fun _ => P)) Q) := by
  subst hn hn' hoffs
  unfold owesSome
  iintro ⟨#HR, ⟨%W, HO⟩, Hup⟩ Hk
  ihave Hup' := (up_take _ _ j) $$ Hup
  icases Hup' with ⟨Hs, Hput⟩
  unfold sendA
  by_cases h : cond = 1#1
  · rw [dif_pos h]
    have hlt' : c < j := hc.mp h
    rw [if_pos hlt']
    icases Hs with ⟨Hat, Hs⟩
    simp only [Prog.lift, Prog.bind_op, Prog.bind_ret]
    iapply (Rounds.wp_wait_rest_token 𝒱₀ ER (sched T) (c : Thread nD τ) none (κ := K (c, sIx j))
        (wpE_waitDma2_eq 𝒱₀ (c : Thread nD τ) none Set.univ) (Set.mem_univ _) () (O := 0) (W := W) (R := 0) (m := 0) (T := ∅)
        (by rw [Nat.zero_add, expect_send T c j hlt'])) $$ [Hs HO Hat]
    · isplitr; · iapply (inv_of T K (c, sIx j)); iexact HR
      isplitl [Hs]; · iexact Hs
      isplitl [HO]; · iexact HO
      isplitr; · rw [MayWait_zero]; iempintro
      iexact Hat
    iintro ⟨HO, Hat, -, Hpay⟩
    imod (Rounds.cell_close ER (sched T) (Set.mem_univ (K (c, sIx j))) (fun h => h) (R := 0 + 1) (duties_later T (sendCell c j))) $$ [Hat] with Hz
    · isplitr; · iapply (inv_of T K (c, sIx j)); iexact HR
      iexact Hat
    ihave Hp := (Entails.of_eq (rest_send T c j hlt')) $$ Hpay
    iapply Hk
    isplitl [HO]; · iexists _; iexact HO
    iapply Hput
    unfold sendC
    isplitl [Hp]; · iexact Hp
    iexact Hz
  · rw [dif_neg h]
    have hlt' : ¬ c < j := fun h' => h (hc.mpr h')
    rw [if_neg hlt']
    icases Hs with ⟨Hat, Hs⟩
    imod (Rounds.cell_close ER (sched T) (Set.mem_univ (K (c, sIx j))) (fun h => h) (R := 0) (fun r _ => duties_send_none T c j hlt' r)) $$ [Hat] with Hz
    · isplitr; · iapply (inv_of T K (c, sIx j)); iexact HR
      iexact Hat
    iapply Hk
    isplitl [HO]; · iexists _; iexact HO
    iapply Hput
    unfold sendC
    isplitl [Hs]; · iexact Hs
    iexact Hz

/-- The guarded wait for device `j`'s row, and the load of slot `j`: it reads device `j`'s products if `j < c`. -/
theorem recv_step (j : Dev nD) {cond : BitVec 1} (hc : cond = 1#1 ↔ j < c) {n n' : ℕ} (hn : n = j.val) (hn' : n' = j.val + 1)
    {offr : Fin 1 → Nat} (hoffr : offr = ![j.val]) {inbr : ∀ x, offr x + S1.size x ≤ S32.size x}
    {offd : Fin 3 → Nat} (hoffd : offd = ![j.val, 0, 0]) {inbd : ∀ a, offd a + S1x1x512.size a ≤ S32x1x512.size a}
    {hsrc : rowM.view.WordExact} {hdst : (slotO offd inbd).view.WordExact}
    {hl : slotsM.view.LoadsAt (Rect.unit (s := S32x1x512) offd S1x1x512.size inbd).toLoadRect}
    {k : (S1x1x512.Idx → Elt F .bf16) → Pg F α} {Q : α → sProp 𝕄} :
    iprop(records T K ∗ owesSome c 0 ∗ up (recvB (F := F) c) (recvA c) n')
      ⊢ iprop((∀ w : S1x1x512.Idx → Elt F .bf16, ⌜j < c → shapeCast S1x512 w shapeCasts_S1x1x512_S1x512 = T j⌝ -∗
            (owesSome c 0 ∗ up (recvB (F := F) c) (recvA c) n) -∗ WP c (k w) Q)
        -∗ WP c (dite (cond = 1#1)
            (fun h => Prog.lift (.waitDma2 (semO cc0_scratch3 offr inbr) rowM (slotO offd inbd) hsrc hdst) >>= fun _ =>
              (Prog.lift (.load slotsM (Rect.unit (s := S32x1x512) offd S1x1x512.size inbd).toLoadRect hl) >>= k))
            (fun _ => Prog.lift (.load slotsM (Rect.unit (s := S32x1x512) offd S1x1x512.size inbd).toLoadRect hl) >>= k)) Q) := by
  subst hn hn' hoffr hoffd
  unfold owesSome
  iintro ⟨#HR, ⟨%W, HO⟩, Hup⟩ Hk
  ihave Hup' := (up_back _ _ j) $$ Hup
  icases Hup' with ⟨Hs, Hput⟩
  unfold recvB
  have hset : (slotsM.access (Rect.unit (s := S32x1x512) ![j.val, 0, 0] S1x1x512.size inbd)).set ⊆ (slotV j).view.set :=
    (View.set_reshape _ _).ge
  by_cases h : cond = 1#1
  · rw [dif_pos h]
    have hlt' : j < c := hc.mp h
    rw [if_pos hlt']
    icases Hs with ⟨Hat, Hs⟩
    simp only [Prog.lift, Prog.bind_op, Prog.bind_ret]
    iapply (Rounds.wp_wait_rest_token 𝒱₀ ER (sched T) (c : Thread nD τ) none (κ := K (c, rIx j))
        (wpE_waitDma2_eq 𝒱₀ (c : Thread nD τ) none Set.univ) (Set.mem_univ _) () (O := 0) (W := W) (R := 0) (m := 0) (T := ∅)
        (by rw [Nat.zero_add, expect_recv T c j hlt', slot_credit])) $$ [Hs HO Hat]
    · isplitr; · iapply (inv_of T K (c, rIx j)); iexact HR
      isplitl [Hs]; · rw [slot_credit]; iexact Hs
      isplitl [HO]; · iexact HO
      isplitr; · rw [MayWait_zero]; iempintro
      iexact Hat
    iintro ⟨HO, Hat, -, Hpay⟩
    imod (Rounds.cell_close ER (sched T) (Set.mem_univ (K (c, rIx j))) (fun h => h) (R := 0 + 1) (duties_later T (recvCell c j))) $$ [Hat] with Hz
    · isplitr; · iapply (inv_of T K (c, rIx j)); iexact HR
      iexact Hat
    ihave Hp := (Entails.of_eq (rest_recv T c j hlt')) $$ Hpay
    unfold slotFull owns
    icases Hp with ⟨%f, %hf, Hp⟩
    iapply (wp_load_rect 𝒱₀ (c : Thread nD τ) none Set.univ (m := slotsM) hset) $$ Hp; iintro Hp
    iapply Hk
    · ipureintro; intro _; exact hf
    isplitl [HO]; · iexists _; iexact HO
    iapply Hput
    unfold recvA slotAny
    isplitl [Hp]; · iexists f; iexact Hp
    iexact Hz
  · rw [dif_neg h]
    have hlt' : ¬ j < c := fun h' => h (hc.mpr h')
    rw [if_neg hlt']
    icases Hs with ⟨Hat, Hs⟩
    imod (Rounds.cell_close ER (sched T) (Set.mem_univ (K (c, rIx j))) (fun h => h) (R := 0) (fun r _ => duties_recv_none T c j hlt' r)) $$ [Hat] with Hz
    · isplitr; · iapply (inv_of T K (c, rIx j)); iexact HR
      iexact Hat
    unfold slotAny
    icases Hs with ⟨%f, Hp⟩
    simp only [Prog.lift, Prog.bind_op, Prog.bind_ret]
    iapply (wp_load_rect 𝒱₀ (c : Thread nD τ) none Set.univ (m := slotsM) hset) $$ Hp; iintro Hp
    iapply Hk
    · ipureintro; intro h'; exact absurd h' hlt'
    isplitl [HO]; · iexists _; iexact HO
    iapply Hput
    unfold recvA slotAny
    isplitl [Hp]; · iexists f; iexact Hp
    iexact Hz

end Stmts

end Cert.CumProd

end
-- ==== Proof.Chain.lean ====
/-
Stages of the kernel's four loops (units, copies, receive waits, send waits), and how steps follow one another.
-/
module

public import proofs.«01_k».proof.Proof.Steps

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

/-- A piece of the kernel at the buffers and semaphores of its call. -/
abbrev ap {β : Type 1} (p : (arg0 : Memref sig .tc .vmem S512x512 .bf16) → arg0.IsWhole → (arg1 : Memref sig .tc .vmem S512x512 .bf16) → arg1.IsWhole
    → (arg2 : Memref sig .tc .vmem S1x512 .bf16) → arg2.IsWhole → (arg3 : Memref sig .tc .vmem S32x1x512 .bf16) → arg3.IsWhole
    → DmaSems sig S32 → DmaSems sig S32 → β) : β :=
  p (Memref.whole cc0_stg0_0) (Memref.isWhole_whole _) (Memref.whole cc0_stg1_0) (Memref.isWhole_whole _) (Memref.whole cc0_scratch0) (Memref.isWhole_whole _)
    (Memref.whole cc0_scratch1) (Memref.isWhole_whole _) cc0_scratch2 cc0_scratch3

/-- The barrier semaphore as the kernel names it. -/
abbrev bar5 : Sems sig S_ := SemArray.scalar (sig.barrier 0 rfl)

/-! ## The stages -/

/-- The units to the devices `n`, `n + 1`, … places on are still to go out; -/
abbrev sigSt (n : ℕ) : sProp 𝕄 := iprop(owesSome c (owedBar c n) ∗ up (fun _ => iprop(emp)) (sigB (F := F) c) n)
/-- the copies to the devices from `n` on are still to go out; -/
abbrev sendSt (n : ℕ) : sProp 𝕄 := iprop(owesSome c (owedSend c n) ∗ up (sendA T c) (sendB T c) n)
/-- the rows from the devices below `n` are still to be waited for; -/
abbrev recvSt (n : ℕ) : sProp 𝕄 := iprop(owesSome c 0 ∗ up (recvB (F := F) c) (recvA c) n)
/-- the copies to the devices from `n` on are still to be waited for. -/
abbrev sentSt (n : ℕ) : sProp 𝕄 := iprop(owesSome c 0 ∗ up (sendC T c) (sendA T c) n)

/-! ## Steps in a row -/

section Chain

omit [FloatOps F] in
/-- A step, then the rest, both beside what neither touches. -/
theorem chain {A B R W W' : sProp 𝕄} (hstep : iprop(records T K ∗ A) ⊢ iprop((B -∗ W') -∗ W)) (hnext : iprop(records T K ∗ B ∗ R) ⊢ W') :
    iprop(records T K ∗ A ∗ R) ⊢ W := by
  iintro ⟨#HR, HA, HRest⟩
  iapply hstep $$ [HA]
  · isplitr; · iexact HR
    iexact HA
  iintro HB
  iapply hnext
  isplitr; · iexact HR
  isplitl [HB]; · iexact HB
  iexact HRest

omit [FloatOps F] in
/-- The same for a step that reads a value of which something is known. -/
theorem chainv {A B R W : sProp 𝕄} {V : Type} {φ : V → Prop} {W' : V → sProp 𝕄} (hstep : iprop(records T K ∗ A) ⊢ iprop((∀ w : V, ⌜φ w⌝ -∗ B -∗ W' w) -∗ W))
    (hnext : ∀ w, φ w → iprop(records T K ∗ B ∗ R) ⊢ W' w) :
    iprop(records T K ∗ A ∗ R) ⊢ W := by
  iintro ⟨#HR, HA, HRest⟩
  iapply hstep $$ [HA]
  · isplitr; · iexact HR
    iexact HA
  iintro %w %hw HB
  iapply (hnext w hw)
  isplitr; · iexact HR
  isplitl [HB]; · iexact HB
  iexact HRest

theorem fin {α : Type} {Q : α → sProp 𝕄} {X : sProp 𝕄} {a : α} (h : X ⊢ Q a) : X ⊢ WP c (pure a) Q := by
  unfold WP; rw [wp_pure]; iintro H; imodintro; iapply h; iexact H

end Chain

/-! ## Whole buffers -/

section Whole

/-- Device `c`'s buffer `b`, all of it, at `f`. -/
abbrev pts (b : Ref sig .tc) (f : Buf (Elt F) ((c : Thread nD τ).loc b)) : sProp 𝕄 := ((c : Thread nD τ).loc b) ↦{fullShare} f

theorem off_zero : (![0, 0] : Fin 2 → Nat) = fun _ => 0 := funext fun a => by fin_cases a <;> rfl

/-- The row's buffer, all of it, is the row at the full share. -/
theorem row_eq (d : Dev nD) : rowPts (F := F) T d fullShare = pts d cc0_scratch0 (T d) := by
  unfold rowPts pts; simp only [Memref.view_whole, View.set_whole]

/-- A load through a memref that covers what is held of its buffer, -/
theorem load_step {s : Shape} {m : Memref sig .tc .vmem s .bf16} {r : LoadRect s} {hl : m.view.LoadsAt r} (f : Buf (Elt F) (m.view.loc (c : Thread nD τ)))
    {v : r.shape.Idx → Elt F .bf16} (hv : m.view.readAt (Elt F) r f = v)
    {α : Type} {Q : α → sProp 𝕄} {k : (r.shape.Idx → Elt F .bf16) → Pg F α} :
    iprop(records T K ∗ (m.view.loc (c : Thread nD τ) ↦{fullShare} f))
      ⊢ iprop(((m.view.loc (c : Thread nD τ) ↦{fullShare} f) -∗ WP c (k v) Q) -∗ WP c (Prog.lift (.load m r hl) >>= k) Q) := by
  subst hv
  iintro ⟨-, Hx⟩ Hk
  simp only [Prog.lift, Prog.bind_op, Prog.bind_ret]
  iapply (wp_load 𝒱₀ (c : Thread nD τ) none Set.univ (m := m) (Finset.subset_univ _)) $$ Hx; iintro Hx
  iapply Hk; iexact Hx

/-- and a store through one. -/
theorem store_step {s : Shape} {m : Memref sig .tc .vmem s .bf16} {r : Rect s} (f : Buf (Elt F) (m.view.loc (c : Thread nD τ)))
    {w : r.shape.Idx → Elt F .bf16} {g : Buf (Elt F) (m.view.loc (c : Thread nD τ))} (hg : (m.access r).write (Elt F) f w Finset.univ = g)
    {hx : (m.access r).Stores Finset.univ} {hm : (Finset.univ : Finset r.shape.Idx) = Finset.univ ∨ ∀ a, r.stride a = 1}
    {α : Type} {Q : α → sProp 𝕄} {k : PUnit → Pg F α} :
    iprop(records T K ∗ (m.view.loc (c : Thread nD τ) ↦{fullShare} f))
      ⊢ iprop(((m.view.loc (c : Thread nD τ) ↦{fullShare} g) -∗ WP c (k ⟨⟩) Q) -∗ WP c (Prog.lift (.store m r w Finset.univ hx hm) >>= k) Q) := by
  subst hg
  iintro ⟨-, Hx⟩ Hk
  simp only [Prog.lift, Prog.bind_op, Prog.bind_ret]
  iapply (wp_store 𝒱₀ (c : Thread nD τ) none Set.univ (m := m) (r := r) (Mk := Finset.univ) (Finset.subset_univ _)) $$ Hx; iintro Hx
  iapply Hk; iexact Hx

omit [FloatOps F] in
/-- Two of the resources beside the records change places. -/
theorem swap {A B R W : sProp 𝕄} (h : iprop(records T K ∗ B ∗ A ∗ R) ⊢ W) : iprop(records T K ∗ A ∗ B ∗ R) ⊢ W := by
  refine BIBase.Entails.trans ?_ h
  iintro ⟨HR, HA, HB, H⟩
  isplitl [HR]; · iexact HR
  isplitl [HB]; · iexact HB
  isplitl [HA] <;> iassumption

end Whole

end Cert.CumProd

end
-- ==== Proof.Slots.lean ====
/-
The row's buffer in 32 shares and the slots' buffer in 32 slots, and back; and where the slots of a device stand at its start.
-/
module

public import proofs.«01_k».proof.Proof.Chain

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

/-! ## The row in shares -/

omit [FloatOps F] in
/-- The row at the full share is its 32 leaves. -/
theorem row_leaves : rowPts (F := F) T c fullShare = bigSep Finset.univ fun j : Dev nD => rowPts T c (leafOf j) := by
  unfold rowPts
  exact ShareLeaves.pointsTo_leaves _ _ 5 fullShare

/-! ## The slots -/

/-- The elements of slot `j`. -/
abbrev slotSet (j : Dev nD) : Finset (Idx ((c : Thread nD τ).loc cc0_scratch1)) := (slotV j).view.set

theorem slot_rect (j : Dev nD) : slotSet c j = (Rect.unit (s := S32x1x512) ![j.val, 0, 0] S1x1x512.size (slot_inb j)).set :=
  (View.set_reshape _ _).trans (View.set_slice_whole cc0_scratch1 _)

/-- An element lies in the slot of its first coordinate. -/
theorem mem_slot (j : Dev nD) (i : S32x1x512.Idx) : i ∈ (Rect.unit (s := S32x1x512) ![j.val, 0, 0] S1x1x512.size (slot_inb j)).set ↔ (i 0).val = j.val := by
  rw [Rect.mem_set_unit]
  constructor
  · intro h
    have h0 := h 0
    simp only [Matrix.cons_val_zero] at h0
    have : S1x1x512.size (0 : Fin 3) = 1 := rfl
    omega
  · intro h a
    have hs0 : S1x1x512.size (0 : Fin 3) = 1 := rfl
    fin_cases a
    · exact ⟨h.ge, by show (i 0).val < j.val + 1; omega⟩
    · exact ⟨Nat.zero_le _, by have := (i 1).isLt; exact this⟩
    · exact ⟨Nat.zero_le _, (i 2).isLt⟩

theorem slots_disjoint : ∀ j ∈ (Finset.univ : Finset (Dev nD)), ∀ j' ∈ (Finset.univ : Finset (Dev nD)), j ≠ j' → Disjoint (slotSet c j) (slotSet c j') := by
  intro j _ j' _ hne
  rw [slot_rect, slot_rect]
  refine Finset.disjoint_left.mpr fun i hi hi' => hne (Fin.ext ?_)
  rw [← (mem_slot j i).mp hi, (mem_slot j' i).mp hi']
theorem slots_cover : (Finset.univ : Finset (Dev nD)).biUnion (slotSet c) = Finset.univ := by
  have h (i : S32x1x512.Idx) : i ∈ slotSet c (⟨(i 0).val, (i 0).isLt⟩ : Dev nD) := by
    rw [slot_rect]; exact (mem_slot _ i).mpr rfl
  exact Finset.eq_univ_iff_forall.mpr fun i => Finset.mem_biUnion.mpr ⟨_, Finset.mem_univ _, h i⟩

omit [FloatOps F] in
/-- The buffer at some contents is its slots, each at some contents, -/
theorem slots_split : (iprop(∃ f, pts c cc0_scratch1 f) : sProp 𝕄) ⊢ bigSep Finset.univ fun j => slotAny (F := F) c j := by
  iintro ⟨%f, H⟩
  unfold pts
  iapply (show (((c : Thread nD τ).loc cc0_scratch1) ↦{fullShare} f : sProp 𝕄) ⊢ bigSep Finset.univ fun j => slotAny (F := F) c j from by
    rw [← slots_cover c, pointsTo_biUnion _ _ (slots_disjoint c)]
    refine bigSep_mono fun j _ => ?_
    unfold slotAny
    show (_ : sProp 𝕄) ⊢ _
    iintro H
    iexists f; iexact H)
  iexact H

/-- and back. -/
theorem slots_join : (bigSep Finset.univ fun j => slotAny (F := F) c j : sProp 𝕄) ⊢ iprop(∃ f, pts c cc0_scratch1 f) := by
  unfold slotAny pts
  iintro H
  ihave H' := (BI.bigSep_exists_pi Finset.univ (fun (j : Dev nD) (f : Buf (Elt F) ((c : Thread nD τ).loc cc0_scratch1)) =>
    (((c : Thread nD τ).loc cc0_scratch1) ↦[slotSet c j]{fullShare} f : sProp 𝕄))) $$ H
  icases H' with ⟨%fs, H⟩
  ihave H' := (pointsTo_biUnion_join (q := fullShare) Finset.univ (slotSet c) fs (fs 0) (slots_disjoint c)) $$ H
  icases H' with ⟨%g, -, H⟩
  iexists g
  rw [slots_cover c]
  iexact H

/-- Of a device's slots, those for the devices before it go out with its units, the others stay. -/
theorem slots_deal : (bigSep Finset.univ fun j => slotAny (F := F) c j : sProp 𝕄)
    ⊢ iprop((bigSep Finset.univ fun j => barPay (F := F) j c) ∗ bigSep Finset.univ fun j : Dev nD => if j < c then iprop(emp) else slotAny c j) := by
  rw [← bigSep_sep']
  refine bigSep_mono fun j _ => ?_
  unfold barPay
  by_cases h : j < c
  · rw [if_pos h, if_pos h]
    show (_ : sProp 𝕄) ⊢ _
    iintro H
    isplitl; · iexact H
    iempintro
  · rw [if_neg h, if_neg h]
    show (_ : sProp 𝕄) ⊢ _
    iintro H
    isplitr; · iempintro
    iexact H

/-! ## The stages at their starts -/

/-- The device `k` places on, for each `k`. -/
def around : Dev nD ≃ Dev nD where
  toFun k := c + k
  invFun j := j - c
  left_inv k := by revert c k; decide +kernel
  right_inv j := by revert c j; decide +kernel

/-- The units can start. -/
theorem sigs_ready : iprop((bigSep Finset.univ fun k : Dev nD => (dutyTok ER (barCell (c + k)) 0 c : sProp 𝕄)) ∗ bigSep Finset.univ fun j => barPay (F := F) j c)
    ⊢ up (fun _ => iprop(emp)) (sigB (F := F) c) 1 := by
  rw [show (bigSep Finset.univ fun j => barPay (F := F) j c) = bigSep Finset.univ fun k => barPay (F := F) (c + k) c from
    bigSep_univ_equiv (around c) (fun j => barPay (F := F) j c)]
  iintro ⟨Ht, Hp⟩
  ihave H := (show iprop((bigSep Finset.univ fun k : Dev nD => (dutyTok ER (barCell (c + k)) 0 c : sProp 𝕄)) ∗ bigSep Finset.univ fun k => barPay (F := F) (c + k) c)
      ⊢ up (fun _ => iprop(emp)) (sigB (F := F) c) (0 : Dev nD).val from by
    rw [show (0 : Dev nD).val = 0 from rfl, up_zero, ← bigSep_sep']; exact BI.Entails.refl _) $$ [Ht Hp]
  · isplitl [Ht] <;> iassumption
  ihave H := (up_take _ _ (0 : Dev nD)) $$ H
  icases H with ⟨-, H⟩
  iapply H
  iempintro

/-- The receive waits can start. -/
theorem recvs_ready : iprop((bigSep Finset.univ fun j : Dev nD => (atPos ER (recvCell c j) 0 ∅ 0 : sProp 𝕄))
      ∗ (bigSep Finset.univ fun j : Dev nD => if j < c then (cred (tallyAt (recvCell c j) () N) : sProp 𝕄) else iprop(emp))
      ∗ bigSep Finset.univ fun j : Dev nD => if j < c then iprop(emp) else slotAny c j)
    ⊢ bigSep Finset.univ (recvB (F := F) c) := by
  rw [← bigSep_sep', ← bigSep_sep']
  refine bigSep_mono fun j _ => ?_
  unfold recvB
  by_cases h : j < c
  · rw [if_pos h, if_pos h, if_pos h]
    show (_ : sProp 𝕄) ⊢ _
    iintro ⟨Ha, Hc, -⟩
    isplitl [Ha] <;> iassumption
  · rw [if_neg h, if_neg h, if_neg h]
    show (_ : sProp 𝕄) ⊢ _
    iintro ⟨Ha, -, Hs⟩
    isplitl [Ha] <;> iassumption

end Cert.CumProd

end
-- ==== Proof.Units.lean ====
/-
The pieces of the kernel's body that send the units and wait for them.
-/
module

public import proofs.«01_k».proof.Proof.Chain

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

/-! ## The units -/

section Sig
variable (v4 : FVec F S512x512 .bf16) (v64 : IVec S512x512 32) (v65 v66 : FVec F S512x512 .bf16) (w w' : BitVec 32)

set_option maxHeartbeats 1000000 in
/-- The first piece reads the block and sends the units to the next four devices. -/
theorem part1 {R : sProp 𝕄} {Q : _ → sProp 𝕄} (x : Buf (Elt F) ((c : Thread nD τ).loc cc0_stg0_0))
    (h : iprop(records T K ∗ sigSt c 5 ∗ pts c cc0_stg0_0 x ∗ R) ⊢ Q ⟨c, myi c, k0_pay1 x, bar5⟩) :
    iprop(records T K ∗ sigSt c 1 ∗ pts c cc0_stg0_0 x ∗ R) ⊢ WP c (ap (k0_part1 (F := F))) Q := by
  rw [k0_part1_eq_skeleton]; unfold ap k0_part1_skel
  show _ ⊢ WP c (Prog.op .deviceId fun d => _) Q
  unfold WP
  rw [wp_deviceId]
  refine swap T K (chain T K (load_step T K c (m := Memref.whole cc0_stg0_0) x (Memref.readAt_unit_zero (Elt F) cc0_stg0_0 off_zero _ _)) (swap T K ?_))
  refine chain T K (sig_step T K c 1 (by decide) (k0_dev1_eq c) rfl rfl) ?_
  refine chain T K (sig_step T K c 2 (by decide) (k0_dev2_eq c) rfl rfl) ?_
  refine chain T K (sig_step T K c 3 (by decide) (k0_dev3_eq c) rfl rfl) ?_
  refine chain T K (sig_step T K c 4 (by decide) (k0_dev4_eq c) rfl rfl) ?_
  exact fin c h

set_option maxHeartbeats 1000000 in
/-- The second sends three more units and stores the products of the block's columns as the row. -/
theorem part2 {R : sProp 𝕄} {Q : _ → sProp 𝕄} (f : Buf (Elt F) ((c : Thread nD τ).loc cc0_scratch0))
    (h : iprop(records T K ∗ sigSt c 8 ∗ pts c cc0_scratch0 (k0_pay2 v4) ∗ R) ⊢ Q ⟨iota .tc S512x512 32 [0] iota_S512x512_d0_w32, k0_pay3, k0_pay4 v4, 1#32⟩) :
    iprop(records T K ∗ sigSt c 5 ∗ pts c cc0_scratch0 f ∗ R) ⊢ WP c (ap (k0_part2 (F := F)) c (myi c) v4 bar5) Q := by
  rw [k0_part2_eq_skeleton]; unfold ap k0_part2_skel
  refine chain T K (sig_step T K c 5 (by decide) (k0_dev5_eq c) rfl rfl) ?_
  refine chain T K (sig_step T K c 6 (by decide) (k0_dev6_eq c) rfl rfl) ?_
  refine chain T K (sig_step T K c 7 (by decide) (k0_dev7_eq c) rfl rfl) ?_
  refine swap T K (chain T K (load_step T K c (m := Memref.whole cc0_scratch0) f (Memref.readAt_unit_zero (Elt F) cc0_scratch0 off_zero _ _)) (chain T K (store_step T K c (m := Memref.whole cc0_scratch0) f (Memref.write_access_unit_zero_univ (Elt F) cc0_scratch0 off_zero _ _ _)) (swap T K ?_)))
  exact fin c h

set_option maxHeartbeats 1000000 in
theorem part3 {R : sProp 𝕄} {Q : _ → sProp 𝕄} (h : ∀ a b, iprop(records T K ∗ sigSt c 13 ∗ R) ⊢ Q ⟨k0_pay5 v4 v64 v65 v66 w, a, b⟩) :
    iprop(records T K ∗ sigSt c 8 ∗ R) ⊢ WP c (ap (k0_part3 (F := F)) c (myi c) v4 bar5 v64 v65 v66 w) Q := by
  rw [k0_part3_eq_skeleton]; unfold ap k0_part3_skel
  refine chain T K (sig_step T K c 8 (by decide) (k0_dev8_eq c) rfl rfl) ?_
  refine chain T K (sig_step T K c 9 (by decide) (k0_dev9_eq c) rfl rfl) ?_
  refine chain T K (sig_step T K c 10 (by decide) (k0_dev10_eq c) rfl rfl) ?_
  refine chain T K (sig_step T K c 11 (by decide) (k0_dev11_eq c) rfl rfl) ?_
  refine chain T K (sig_step T K c 12 (by decide) (k0_dev12_eq c) rfl rfl) ?_
  exact fin c (h _ _)

set_option maxHeartbeats 1000000 in
theorem part4 {R : sProp 𝕄} {Q : _ → sProp 𝕄} (h : iprop(records T K ∗ sigSt c 18 ∗ R) ⊢ Q (k0_pay6 v64 v65 v4)) :
    iprop(records T K ∗ sigSt c 13 ∗ R) ⊢ WP c (ap (k0_part4 (F := F)) c (myi c) bar5 v64 v65 v4 w w') Q := by
  rw [k0_part4_eq_skeleton]; unfold ap k0_part4_skel
  refine chain T K (sig_step T K c 13 (by decide) (k0_dev13_eq c) rfl rfl) ?_
  refine chain T K (sig_step T K c 14 (by decide) (k0_dev14_eq c) rfl rfl) ?_
  refine chain T K (sig_step T K c 15 (by decide) (k0_dev15_eq c) rfl rfl) ?_
  refine chain T K (sig_step T K c 16 (by decide) (k0_dev16_eq c) rfl rfl) ?_
  refine chain T K (sig_step T K c 17 (by decide) (k0_dev17_eq c) rfl rfl) ?_
  exact fin c h

set_option maxHeartbeats 1000000 in
theorem part5 {R : sProp 𝕄} {Q : _ → sProp 𝕄} (h : ∀ a, iprop(records T K ∗ sigSt c 24 ∗ R) ⊢ Q ⟨k0_pay7 v64 v65 v4, a⟩) :
    iprop(records T K ∗ sigSt c 18 ∗ R) ⊢ WP c (ap (k0_part5 (F := F)) c (myi c) bar5 v64 v65 v4) Q := by
  rw [k0_part5_eq_skeleton]; unfold ap k0_part5_skel
  refine chain T K (sig_step T K c 18 (by decide) (k0_dev18_eq c) rfl rfl) ?_
  refine chain T K (sig_step T K c 19 (by decide) (k0_dev19_eq c) rfl rfl) ?_
  refine chain T K (sig_step T K c 20 (by decide) (k0_dev20_eq c) rfl rfl) ?_
  refine chain T K (sig_step T K c 21 (by decide) (k0_dev21_eq c) rfl rfl) ?_
  refine chain T K (sig_step T K c 22 (by decide) (k0_dev22_eq c) rfl rfl) ?_
  refine chain T K (sig_step T K c 23 (by decide) (k0_dev23_eq c) rfl rfl) ?_
  exact fin c (h _)

set_option maxHeartbeats 1000000 in
theorem part6 {R : sProp 𝕄} {Q : _ → sProp 𝕄} (h : ∀ a, iprop(records T K ∗ sigSt c 29 ∗ R) ⊢ Q ⟨k0_pay8 v64 v65 v4, a⟩) :
    iprop(records T K ∗ sigSt c 24 ∗ R) ⊢ WP c (ap (k0_part6 (F := F)) c (myi c) bar5 v64 v65 v4 w) Q := by
  rw [k0_part6_eq_skeleton]; unfold ap k0_part6_skel
  refine chain T K (sig_step T K c 24 (by decide) (k0_dev24_eq c) rfl rfl) ?_
  refine chain T K (sig_step T K c 25 (by decide) (k0_dev25_eq c) rfl rfl) ?_
  refine chain T K (sig_step T K c 26 (by decide) (k0_dev26_eq c) rfl rfl) ?_
  refine chain T K (sig_step T K c 27 (by decide) (k0_dev27_eq c) rfl rfl) ?_
  refine chain T K (sig_step T K c 28 (by decide) (k0_dev28_eq c) rfl rfl) ?_
  exact fin c (h _)

end Sig

/-! ## The copies -/

section Send

/-- Towards the copy to device `j`, all but the slot that comes with `j`'s unit. -/
def sendP (j : Dev nD) : sProp 𝕄 :=
  iprop(atPos ER (sendCell c j) 0 ∅ 0 ∗ rowPts T c (leafOf j)
    ∗ if c < j then iprop(dutyTok ER (sendCell c j) 0 j ∗ dutyTok ER (recvCell j c) 0 c) else iprop(emp))

omit [FloatOps F] in
/-- With the slots that came with the units the copies can start. -/
theorem sends_ready : iprop((bigSep (Finset.univ.erase c) fun e => barPay (F := F) c e) ∗ bigSep Finset.univ fun j => sendP T c j)
    ⊢ up (sendA T c) (sendB T c) 0 := by
  have hall : (bigSep (Finset.univ.erase c) fun e => barPay (F := F) c e) ⊢ (bigSep Finset.univ fun e => barPay (F := F) c e : sProp 𝕄) := by
    rw [bigSep_univ_at (fun e => barPay (F := F) c e) c]
    iintro H
    isplitr
    · unfold barPay; rw [if_neg (lt_irrefl c)]; iempintro
    · iexact H
  rw [up_zero]
  refine (BI.sep_mono_l hall).trans ((Entails.of_eq (bigSep_sep' Finset.univ (fun e => barPay (F := F) c e) (fun j => sendP T c j)).symm).trans ?_)
  refine bigSep_mono fun j _ => ?_
  unfold barPay sendP sendB
  by_cases h : c < j
  · rw [if_pos h, if_pos h, if_pos h]
    show (_ : sProp 𝕄) ⊢ _
    iintro ⟨Hslot, Hat, Hrow, Ht1, Ht2⟩
    isplitl [Hat]; · iexact Hat
    isplitl [Hrow]; · iexact Hrow
    isplitl [Hslot]; · iexact Hslot
    isplitl [Ht1] <;> iassumption
  · rw [if_neg h, if_neg h, if_neg h]
    show (_ : sProp 𝕄) ⊢ _
    iintro ⟨-, Hat, Hrow, -⟩
    isplitl [Hat]; · iexact Hat
    isplitl [Hrow]; · iexact Hrow
    iempintro

/-- What the barrier wait takes. -/
abbrev barB : sProp 𝕄 := iprop(levAts L lv ∗ atPos ER (barCell c) 0 ∅ 0 ∗ cred (tallyAt (barCell c) () 31))

set_option maxHeartbeats 1000000 in
/-- The seventh piece: the last three units, the wait for the 31 of the other devices, and the first five copies. -/
theorem part7 {R : sProp 𝕄} {Q : _ → sProp 𝕄} (w : BitVec 32) (h : ∀ a, iprop(records T K ∗ sendSt T c 5 ∗ (semVal (barCell c) 0 ∗ R)) ⊢ Q a) :
    iprop(records T K ∗ sigSt c 29 ∗ ((barB c ∗ bigSep Finset.univ fun j => sendP T c j) ∗ R)) ⊢ WP c (ap (k0_part7 (F := F)) c (myi c) bar5 w) Q := by
  rw [k0_part7_eq_skeleton]; unfold ap k0_part7_skel
  refine chain T K (sig_step T K c 29 (by decide) (k0_dev29_eq c) rfl rfl) ?_
  refine chain T K (sig_step T K c 30 (by decide) (k0_dev30_eq c) rfl rfl) ?_
  refine chain T K (sig_step T K c 31 (by decide) (k0_dev31_eq c) rfl rfl) ?_
  refine BIBase.Entails.trans (Q := iprop(records T K ∗ iprop(levAts L lv ∗ owesSome c (owedSend c 0) ∗ atPos ER (barCell c) 0 ∅ 0 ∗ cred (tallyAt (barCell c) () 31))
    ∗ iprop((bigSep Finset.univ fun j => sendP T c j) ∗ R))) ?_ (chain T K (bar_step T K c) ?_)
  · iintro ⟨HR, ⟨HO, -⟩, ⟨⟨Hl, Hat, Hc⟩, Hs⟩, H⟩
    isplitl [HR]; · iexact HR
    isplitl [Hl HO Hat Hc]
    · isplitl [Hl]; · iexact Hl
      isplitl [HO]
      · iapply (Entails.of_eq (congrArg (owesSome (F := F) c) (owedBar_last c))); iexact HO
      isplitl [Hat] <;> iassumption
    isplitl [Hs] <;> iassumption
  refine BIBase.Entails.trans (Q := iprop(records T K ∗ sendSt T c 0 ∗ (semVal (barCell c) 0 ∗ R))) ?_ ?_
  · iintro ⟨HR, ⟨HO, Hz, Hp⟩, Hs, H⟩
    isplitl [HR]; · iexact HR
    isplitl [HO Hp Hs]
    · isplitl [HO]; · iexact HO
      iapply (sends_ready T c)
      isplitl [Hp] <;> iassumption
    isplitl [Hz] <;> iassumption
  refine chain T K (send_step T K c 0 (cond_lt c 0) rfl rfl rfl (k0_off1_eq c) (k0_off2_eq c) k0_dev32_eq) ?_
  refine chain T K (send_step T K c 1 (cond_lt c 1) rfl rfl rfl (k0_off3_eq c) (k0_off4_eq c) k0_dev33_eq) ?_
  refine chain T K (send_step T K c 2 (cond_lt c 2) rfl rfl rfl (k0_off5_eq c) (k0_off6_eq c) k0_dev34_eq) ?_
  refine chain T K (send_step T K c 3 (cond_lt c 3) rfl rfl rfl (k0_off7_eq c) (k0_off8_eq c) k0_dev35_eq) ?_
  refine chain T K (send_step T K c 4 (cond_lt c 4) rfl rfl rfl (k0_off9_eq c) (k0_off10_eq c) k0_dev36_eq) ?_
  exact fin c (h _)

end Send

end Cert.CumProd

end
-- ==== Proof.Copies.lean ====
/-
The pieces of the kernel's body that start the copies.
-/
module

public import proofs.«01_k».proof.Proof.Chain

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

section Send

set_option maxHeartbeats 1000000 in
theorem part8 {R : sProp 𝕄} {Q : BitVec 1 → sProp 𝕄} (w : BitVec 1) (h : ∀ a, iprop(records T K ∗ sendSt T c 15 ∗ R) ⊢ Q a) :
    iprop(records T K ∗ sendSt T c 5 ∗ R) ⊢ WP c (ap (k0_part8 (F := F)) c (myi c) w) Q := by
  rw [k0_part8_eq_skeleton]; unfold ap k0_part8_skel
  refine chain T K (send_step T K c 5 (cond_lt c 5) rfl rfl rfl (k0_off11_eq c) (k0_off12_eq c) k0_dev37_eq) ?_
  refine chain T K (send_step T K c 6 (cond_lt c 6) rfl rfl rfl (k0_off13_eq c) (k0_off14_eq c) k0_dev38_eq) ?_
  refine chain T K (send_step T K c 7 (cond_lt c 7) rfl rfl rfl (k0_off15_eq c) (k0_off16_eq c) k0_dev39_eq) ?_
  refine chain T K (send_step T K c 8 (cond_lt c 8) rfl rfl rfl (k0_off17_eq c) (k0_off18_eq c) k0_dev40_eq) ?_
  refine chain T K (send_step T K c 9 (cond_lt c 9) rfl rfl rfl (k0_off19_eq c) (k0_off20_eq c) k0_dev41_eq) ?_
  refine chain T K (send_step T K c 10 (cond_lt c 10) rfl rfl rfl (k0_off21_eq c) (k0_off22_eq c) k0_dev42_eq) ?_
  refine chain T K (send_step T K c 11 (cond_lt c 11) rfl rfl rfl (k0_off23_eq c) (k0_off24_eq c) k0_dev43_eq) ?_
  refine chain T K (send_step T K c 12 (cond_lt c 12) rfl rfl rfl (k0_off25_eq c) (k0_off26_eq c) k0_dev44_eq) ?_
  refine chain T K (send_step T K c 13 (cond_lt c 13) rfl rfl rfl (k0_off27_eq c) (k0_off28_eq c) k0_dev45_eq) ?_
  refine chain T K (send_step T K c 14 (cond_lt c 14) rfl rfl rfl (k0_off29_eq c) (k0_off30_eq c) k0_dev46_eq) ?_
  exact fin c (h _)

set_option maxHeartbeats 1000000 in
theorem part9 {R : sProp 𝕄} {Q : BitVec 1 → sProp 𝕄} (w : BitVec 1) (h : ∀ a, iprop(records T K ∗ sendSt T c 25 ∗ R) ⊢ Q a) :
    iprop(records T K ∗ sendSt T c 15 ∗ R) ⊢ WP c (ap (k0_part9 (F := F)) c (myi c) w) Q := by
  rw [k0_part9_eq_skeleton]; unfold ap k0_part9_skel
  refine chain T K (send_step T K c 15 (cond_lt c 15) rfl rfl rfl (k0_off31_eq c) (k0_off32_eq c) k0_dev47_eq) ?_
  refine chain T K (send_step T K c 16 (cond_lt c 16) rfl rfl rfl (k0_off33_eq c) (k0_off34_eq c) k0_dev48_eq) ?_
  refine chain T K (send_step T K c 17 (cond_lt c 17) rfl rfl rfl (k0_off35_eq c) (k0_off36_eq c) k0_dev49_eq) ?_
  refine chain T K (send_step T K c 18 (cond_lt c 18) rfl rfl rfl (k0_off37_eq c) (k0_off38_eq c) k0_dev50_eq) ?_
  refine chain T K (send_step T K c 19 (cond_lt c 19) rfl rfl rfl (k0_off39_eq c) (k0_off40_eq c) k0_dev51_eq) ?_
  refine chain T K (send_step T K c 20 (cond_lt c 20) rfl rfl rfl (k0_off41_eq c) (k0_off42_eq c) k0_dev52_eq) ?_
  refine chain T K (send_step T K c 21 (cond_lt c 21) rfl rfl rfl (k0_off43_eq c) (k0_off44_eq c) k0_dev53_eq) ?_
  refine chain T K (send_step T K c 22 (cond_lt c 22) rfl rfl rfl (k0_off45_eq c) (k0_off46_eq c) k0_dev54_eq) ?_
  refine chain T K (send_step T K c 23 (cond_lt c 23) rfl rfl rfl (k0_off47_eq c) (k0_off48_eq c) k0_dev55_eq) ?_
  refine chain T K (send_step T K c 24 (cond_lt c 24) rfl rfl rfl (k0_off49_eq c) (k0_off50_eq c) k0_dev56_eq) ?_
  exact fin c (h _)

set_option maxHeartbeats 1000000 in
theorem part10 {R : sProp 𝕄} {Q : _ → sProp 𝕄} (v64 : IVec S512x512 32) (v65 v : FVec F S512x512 .bf16) (w : BitVec 1)
    (h : iprop(records T K ∗ sendSt T c 32 ∗ R) ⊢ Q ⟨k0_pay9 v64 v65 v, k0_pay10 v64 v65 v⟩) :
    iprop(records T K ∗ sendSt T c 25 ∗ R) ⊢ WP c (ap (k0_part10 (F := F)) c (myi c) v64 v65 v w) Q := by
  rw [k0_part10_eq_skeleton]; unfold ap k0_part10_skel
  refine chain T K (send_step T K c 25 (cond_lt c 25) rfl rfl rfl (k0_off51_eq c) (k0_off52_eq c) k0_dev57_eq) ?_
  refine chain T K (send_step T K c 26 (cond_lt c 26) rfl rfl rfl (k0_off53_eq c) (k0_off54_eq c) k0_dev58_eq) ?_
  refine chain T K (send_step T K c 27 (cond_lt c 27) rfl rfl rfl (k0_off55_eq c) (k0_off56_eq c) k0_dev59_eq) ?_
  refine chain T K (send_step T K c 28 (cond_lt c 28) rfl rfl rfl (k0_off57_eq c) (k0_off58_eq c) k0_dev60_eq) ?_
  refine chain T K (send_step T K c 29 (cond_lt c 29) rfl rfl rfl (k0_off59_eq c) (k0_off60_eq c) k0_dev61_eq) ?_
  refine chain T K (send_step T K c 30 (cond_lt c 30) rfl rfl rfl (k0_off61_eq c) (k0_off62_eq c) k0_dev62_eq) ?_
  refine chain T K (send_step T K c 31 (cond_lt c 31) rfl rfl rfl (k0_off63_eq c) (k0_off64_eq c) k0_dev63_eq) ?_
  exact fin c h

end Send

end Cert.CumProd

end
-- ==== Proof.Recvs.lean ====
/-
The pieces of the kernel's body that wait for the other devices' rows and multiply them up.
-/
module

public import proofs.«01_k».proof.Proof.Chain

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

/-! ## The receive waits -/

section Recv

/-- The row of ones. -/
abbrev ones : FVec F S1x512 .bf16 := k0_pay12
/-- What device `c` multiplies in for device `j`: `j`'s products if `j` is before it, ones if not. -/
def sel (j : Dev nD) : FVec F S1x512 .bf16 := if j < c then T j else ones
/-- A row with those for a list of devices multiplied in. -/
def pre (a : FVec F S1x512 .bf16) (l : List (Dev nD)) : FVec F S1x512 .bf16 := l.foldl (fun b j => mulf b (sel T c j)) a

theorem sel_eq (j : Dev nD) {w : FVec F S1x512 .bf16} (h : j < c → w = T j) :
    Scalar.select (Scalar.cmpi .sgt (myi c) (BitVec.ofNat 32 j.val)) w (ones (F := F)) = sel T c j := by
  unfold Scalar.select sel
  by_cases hj : j < c
  · rw [if_pos (show _ = (1 : BitVec 1) from (cmp_gt c j).mpr hj), if_pos hj, h hj]
  · rw [if_neg (show ¬ _ = (1 : BitVec 1) from fun h' => hj ((cmp_gt c j).mp h')), if_neg hj]

theorem pre2 (a : FVec F S1x512 .bf16) (j₀ j₁ : Dev nD) {w₀ w₁ : FVec F S1x512 .bf16} (h₀ : j₀ < c → w₀ = T j₀) (h₁ : j₁ < c → w₁ = T j₁) :
    mulf (mulf a (Scalar.select (Scalar.cmpi .sgt (myi c) (BitVec.ofNat 32 j₀.val)) w₀ ones))
      (Scalar.select (Scalar.cmpi .sgt (myi c) (BitVec.ofNat 32 j₁.val)) w₁ ones) = pre T c a [j₀, j₁] := by
  rw [sel_eq T c j₀ h₀, sel_eq T c j₁ h₁]; rfl
theorem pre4 (a : FVec F S1x512 .bf16) (j₀ j₁ j₂ j₃ : Dev nD) {w₀ w₁ w₂ w₃ : FVec F S1x512 .bf16}
    (h₀ : j₀ < c → w₀ = T j₀) (h₁ : j₁ < c → w₁ = T j₁) (h₂ : j₂ < c → w₂ = T j₂) (h₃ : j₃ < c → w₃ = T j₃) :
    mulf (mulf (mulf (mulf a (Scalar.select (Scalar.cmpi .sgt (myi c) (BitVec.ofNat 32 j₀.val)) w₀ ones))
      (Scalar.select (Scalar.cmpi .sgt (myi c) (BitVec.ofNat 32 j₁.val)) w₁ ones))
      (Scalar.select (Scalar.cmpi .sgt (myi c) (BitVec.ofNat 32 j₂.val)) w₂ ones))
      (Scalar.select (Scalar.cmpi .sgt (myi c) (BitVec.ofNat 32 j₃.val)) w₃ ones) = pre T c a [j₀, j₁, j₂, j₃] := by
  rw [sel_eq T c j₀ h₀, sel_eq T c j₁ h₁, sel_eq T c j₂ h₂, sel_eq T c j₃ h₃]; rfl

set_option maxHeartbeats 1000000 in
theorem part11 {R : sProp 𝕄} {Q : _ → sProp 𝕄} (v64 : IVec S512x512 32) (v65 v287 v291 : FVec F S512x512 .bf16)
    (h : ∀ w, ((28 : Dev nD) < c → w = T 28) → iprop(records T K ∗ recvSt c 28 ∗ R)
      ⊢ Q ⟨k0_pay11 v64 v65 v287 v291, ones, pre T c ones [30, 29], Scalar.cmpi .sgt (myi c) 28#32, w⟩) :
    iprop(records T K ∗ recvSt c 31 ∗ R) ⊢ WP c (ap (k0_part11 (F := F)) (myi c) v64 v65 v287 v291) Q := by
  rw [k0_part11_eq_skeleton]; unfold ap k0_part11_skel
  refine chainv T K (recv_step T K c 30 (cond_gt c 30) rfl rfl rfl rfl) fun w0 h0 => ?_
  refine chainv T K (recv_step T K c 29 (cond_gt c 29) rfl rfl rfl rfl) fun w1 h1 => ?_
  refine chainv T K (recv_step T K c 28 (cond_gt c 28) rfl rfl rfl rfl) fun w2 h2 => ?_
  refine fin c ?_
  rw [show k0_pay13 (myi c) w0 w1 = pre T c ones [30, 29] from pre2 T c ones 30 29 h0 h1]
  exact h (k0_pay14 w2) h2

set_option maxHeartbeats 1000000 in
theorem part12 {R : sProp 𝕄} {Q : _ → sProp 𝕄} (a w : FVec F S1x512 .bf16) (hw : (28 : Dev nD) < c → w = T 28)
    (h : ∀ w, ((24 : Dev nD) < c → w = T 24) → iprop(records T K ∗ recvSt c 24 ∗ R)
      ⊢ Q ⟨pre T c a [28, 27, 26, 25], Scalar.cmpi .sgt (myi c) 24#32, w⟩) :
    iprop(records T K ∗ recvSt c 28 ∗ R) ⊢ WP c (ap (k0_part12 (F := F)) (myi c) ones a (Scalar.cmpi .sgt (myi c) 28#32) w) Q := by
  rw [k0_part12_eq_skeleton]; unfold ap k0_part12_skel
  refine chainv T K (recv_step T K c 27 (cond_gt c 27) rfl rfl rfl rfl) fun w0 h0 => ?_
  refine chainv T K (recv_step T K c 26 (cond_gt c 26) rfl rfl rfl rfl) fun w1 h1 => ?_
  refine chainv T K (recv_step T K c 25 (cond_gt c 25) rfl rfl rfl rfl) fun w2 h2 => ?_
  refine chainv T K (recv_step T K c 24 (cond_gt c 24) rfl rfl rfl rfl) fun w3 h3 => ?_
  refine fin c ?_
  rw [show k0_pay15 (myi c) ones a (Scalar.cmpi .sgt (myi c) 28#32) w w0 w1 w2 = pre T c a [28, 27, 26, 25] from pre4 T c a 28 27 26 25 hw h0 h1 h2]
  exact h (k0_pay16 w3) h3

set_option maxHeartbeats 1000000 in
theorem part13 {R : sProp 𝕄} {Q : _ → sProp 𝕄} (a w : FVec F S1x512 .bf16) (hw : (24 : Dev nD) < c → w = T 24)
    (h : ∀ w, ((20 : Dev nD) < c → w = T 20) → iprop(records T K ∗ recvSt c 20 ∗ R)
      ⊢ Q ⟨pre T c a [24, 23, 22, 21], Scalar.cmpi .sgt (myi c) 20#32, w⟩) :
    iprop(records T K ∗ recvSt c 24 ∗ R) ⊢ WP c (ap (k0_part13 (F := F)) (myi c) ones a (Scalar.cmpi .sgt (myi c) 24#32) w) Q := by
  rw [k0_part13_eq_skeleton]; unfold ap k0_part13_skel
  refine chainv T K (recv_step T K c 23 (cond_gt c 23) rfl rfl rfl rfl) fun w0 h0 => ?_
  refine chainv T K (recv_step T K c 22 (cond_gt c 22) rfl rfl rfl rfl) fun w1 h1 => ?_
  refine chainv T K (recv_step T K c 21 (cond_gt c 21) rfl rfl rfl rfl) fun w2 h2 => ?_
  refine chainv T K (recv_step T K c 20 (cond_gt c 20) rfl rfl rfl rfl) fun w3 h3 => ?_
  refine fin c ?_
  rw [show k0_pay17 (myi c) ones a (Scalar.cmpi .sgt (myi c) 24#32) w w0 w1 w2 = pre T c a [24, 23, 22, 21] from pre4 T c a 24 23 22 21 hw h0 h1 h2]
  exact h (k0_pay18 w3) h3

set_option maxHeartbeats 1000000 in
theorem part14 {R : sProp 𝕄} {Q : _ → sProp 𝕄} (a w : FVec F S1x512 .bf16) (hw : (20 : Dev nD) < c → w = T 20)
    (h : ∀ w, ((16 : Dev nD) < c → w = T 16) → iprop(records T K ∗ recvSt c 16 ∗ R)
      ⊢ Q ⟨pre T c a [20, 19, 18, 17], Scalar.cmpi .sgt (myi c) 16#32, w⟩) :
    iprop(records T K ∗ recvSt c 20 ∗ R) ⊢ WP c (ap (k0_part14 (F := F)) (myi c) ones a (Scalar.cmpi .sgt (myi c) 20#32) w) Q := by
  rw [k0_part14_eq_skeleton]; unfold ap k0_part14_skel
  refine chainv T K (recv_step T K c 19 (cond_gt c 19) rfl rfl rfl rfl) fun w0 h0 => ?_
  refine chainv T K (recv_step T K c 18 (cond_gt c 18) rfl rfl rfl rfl) fun w1 h1 => ?_
  refine chainv T K (recv_step T K c 17 (cond_gt c 17) rfl rfl rfl rfl) fun w2 h2 => ?_
  refine chainv T K (recv_step T K c 16 (cond_gt c 16) rfl rfl rfl rfl) fun w3 h3 => ?_
  refine fin c ?_
  rw [show k0_pay19 (myi c) ones a (Scalar.cmpi .sgt (myi c) 20#32) w w0 w1 w2 = pre T c a [20, 19, 18, 17] from pre4 T c a 20 19 18 17 hw h0 h1 h2]
  exact h (k0_pay20 w3) h3

set_option maxHeartbeats 1000000 in
theorem part15 {R : sProp 𝕄} {Q : _ → sProp 𝕄} (a w : FVec F S1x512 .bf16) (hw : (16 : Dev nD) < c → w = T 16)
    (h : ∀ w, ((12 : Dev nD) < c → w = T 12) → iprop(records T K ∗ recvSt c 12 ∗ R)
      ⊢ Q ⟨pre T c a [16, 15, 14, 13], Scalar.cmpi .sgt (myi c) 12#32, w⟩) :
    iprop(records T K ∗ recvSt c 16 ∗ R) ⊢ WP c (ap (k0_part15 (F := F)) (myi c) ones a (Scalar.cmpi .sgt (myi c) 16#32) w) Q := by
  rw [k0_part15_eq_skeleton]; unfold ap k0_part15_skel
  refine chainv T K (recv_step T K c 15 (cond_gt c 15) rfl rfl rfl rfl) fun w0 h0 => ?_
  refine chainv T K (recv_step T K c 14 (cond_gt c 14) rfl rfl rfl rfl) fun w1 h1 => ?_
  refine chainv T K (recv_step T K c 13 (cond_gt c 13) rfl rfl rfl rfl) fun w2 h2 => ?_
  refine chainv T K (recv_step T K c 12 (cond_gt c 12) rfl rfl rfl rfl) fun w3 h3 => ?_
  refine fin c ?_
  rw [show k0_pay21 (myi c) ones a (Scalar.cmpi .sgt (myi c) 16#32) w w0 w1 w2 = pre T c a [16, 15, 14, 13] from pre4 T c a 16 15 14 13 hw h0 h1 h2]
  exact h (k0_pay22 w3) h3

set_option maxHeartbeats 1000000 in
theorem part16 {R : sProp 𝕄} {Q : _ → sProp 𝕄} (a w : FVec F S1x512 .bf16) (hw : (12 : Dev nD) < c → w = T 12)
    (h : ∀ w, ((8 : Dev nD) < c → w = T 8) → iprop(records T K ∗ recvSt c 8 ∗ R)
      ⊢ Q ⟨pre T c a [12, 11, 10, 9], Scalar.cmpi .sgt (myi c) 8#32, w⟩) :
    iprop(records T K ∗ recvSt c 12 ∗ R) ⊢ WP c (ap (k0_part16 (F := F)) (myi c) ones a (Scalar.cmpi .sgt (myi c) 12#32) w) Q := by
  rw [k0_part16_eq_skeleton]; unfold ap k0_part16_skel
  refine chainv T K (recv_step T K c 11 (cond_gt c 11) rfl rfl rfl rfl) fun w0 h0 => ?_
  refine chainv T K (recv_step T K c 10 (cond_gt c 10) rfl rfl rfl rfl) fun w1 h1 => ?_
  refine chainv T K (recv_step T K c 9 (cond_gt c 9) rfl rfl rfl rfl) fun w2 h2 => ?_
  refine chainv T K (recv_step T K c 8 (cond_gt c 8) rfl rfl rfl rfl) fun w3 h3 => ?_
  refine fin c ?_
  rw [show k0_pay23 (myi c) ones a (Scalar.cmpi .sgt (myi c) 12#32) w w0 w1 w2 = pre T c a [12, 11, 10, 9] from pre4 T c a 12 11 10 9 hw h0 h1 h2]
  exact h (k0_pay24 w3) h3

set_option maxHeartbeats 1000000 in
theorem part17 {R : sProp 𝕄} {Q : _ → sProp 𝕄} (a w : FVec F S1x512 .bf16) (hw : (8 : Dev nD) < c → w = T 8)
    (h : ∀ w, ((4 : Dev nD) < c → w = T 4) → iprop(records T K ∗ recvSt c 4 ∗ R)
      ⊢ Q ⟨pre T c a [8, 7, 6, 5], Scalar.cmpi .sgt (myi c) 4#32, w⟩) :
    iprop(records T K ∗ recvSt c 8 ∗ R) ⊢ WP c (ap (k0_part17 (F := F)) (myi c) ones a (Scalar.cmpi .sgt (myi c) 8#32) w) Q := by
  rw [k0_part17_eq_skeleton]; unfold ap k0_part17_skel
  refine chainv T K (recv_step T K c 7 (cond_gt c 7) rfl rfl rfl rfl) fun w0 h0 => ?_
  refine chainv T K (recv_step T K c 6 (cond_gt c 6) rfl rfl rfl rfl) fun w1 h1 => ?_
  refine chainv T K (recv_step T K c 5 (cond_gt c 5) rfl rfl rfl rfl) fun w2 h2 => ?_
  refine chainv T K (recv_step T K c 4 (cond_gt c 4) rfl rfl rfl rfl) fun w3 h3 => ?_
  refine fin c ?_
  rw [show k0_pay25 (myi c) ones a (Scalar.cmpi .sgt (myi c) 8#32) w w0 w1 w2 = pre T c a [8, 7, 6, 5] from pre4 T c a 8 7 6 5 hw h0 h1 h2]
  exact h (k0_pay26 w3) h3

set_option maxHeartbeats 1000000 in
theorem part18 {R : sProp 𝕄} {Q : _ → sProp 𝕄} (a w : FVec F S1x512 .bf16) (hw : (4 : Dev nD) < c → w = T 4)
    (h : ∀ w, ((0 : Dev nD) < c → w = T 0) → iprop(records T K ∗ recvSt c 0 ∗ R)
      ⊢ Q ⟨pre T c a [4, 3, 2, 1], Scalar.cmpi .sgt (myi c) 0#32, w⟩) :
    iprop(records T K ∗ recvSt c 4 ∗ R) ⊢ WP c (ap (k0_part18 (F := F)) (myi c) ones a (Scalar.cmpi .sgt (myi c) 4#32) w) Q := by
  rw [k0_part18_eq_skeleton]; unfold ap k0_part18_skel
  refine chainv T K (recv_step T K c 3 (cond_gt c 3) rfl rfl rfl rfl) fun w0 h0 => ?_
  refine chainv T K (recv_step T K c 2 (cond_gt c 2) rfl rfl rfl rfl) fun w1 h1 => ?_
  refine chainv T K (recv_step T K c 1 (cond_gt c 1) rfl rfl rfl rfl) fun w2 h2 => ?_
  refine chainv T K (recv_step T K c 0 (cond_gt c 0) rfl rfl rfl rfl) fun w3 h3 => ?_
  refine fin c ?_
  rw [show k0_pay27 (myi c) ones a (Scalar.cmpi .sgt (myi c) 4#32) w w0 w1 w2 = pre T c a [4, 3, 2, 1] from pre4 T c a 4 3 2 1 hw h0 h1 h2]
  exact h (k0_pay28 w3) h3

end Recv

end Cert.CumProd

end
-- ==== Proof.Sents.lean ====
/-
The pieces of the kernel's body that wait for its own copies; the first of them stores the result.
-/
module

public import proofs.«01_k».proof.Proof.Chain

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

/-! ## The send waits -/

section Sent

set_option maxHeartbeats 1000000 in
/-- The nineteenth piece stores the result and waits for the first eight copies. -/
theorem part19 {R : sProp 𝕄} {Q : _ → sProp 𝕄} (v302 : FVec F S512x512 .bf16) (v543 v549 : FVec F S1x512 .bf16) (v547 : BitVec 1)
    (f : Buf (Elt F) ((c : Thread nD τ).loc cc0_stg1_0))
    (h : ∀ a b, iprop(records T K ∗ sentSt T c 8 ∗ pts c cc0_stg1_0 (k0_pay29 v302 k0_pay12 v543 v547 v549) ∗ R) ⊢ Q ⟨a, b⟩) :
    iprop(records T K ∗ sentSt T c 0 ∗ pts c cc0_stg1_0 f ∗ R) ⊢ WP c (ap (k0_part19 (F := F)) c (myi c) v302 k0_pay12 v543 v547 v549) Q := by
  rw [k0_part19_eq_skeleton]; unfold ap k0_part19_skel
  refine swap T K (chain T K (load_step T K c (m := Memref.whole cc0_stg1_0) f (Memref.readAt_unit_zero (Elt F) cc0_stg1_0 off_zero _ _)) (chain T K (store_step T K c (m := Memref.whole cc0_stg1_0) f (Memref.write_access_unit_zero_univ (Elt F) cc0_stg1_0 off_zero _ _ _)) (swap T K ?_)))
  refine chain T K (sent_step T K c 0 (cond_lt c 0) rfl rfl rfl) ?_
  refine chain T K (sent_step T K c 1 (cond_lt c 1) rfl rfl rfl) ?_
  refine chain T K (sent_step T K c 2 (cond_lt c 2) rfl rfl rfl) ?_
  refine chain T K (sent_step T K c 3 (cond_lt c 3) rfl rfl rfl) ?_
  refine chain T K (sent_step T K c 4 (cond_lt c 4) rfl rfl rfl) ?_
  refine chain T K (sent_step T K c 5 (cond_lt c 5) rfl rfl rfl) ?_
  refine chain T K (sent_step T K c 6 (cond_lt c 6) rfl rfl rfl) ?_
  refine chain T K (sent_step T K c 7 (cond_lt c 7) rfl rfl rfl) ?_
  exact fin c (h _ _)

set_option maxHeartbeats 1000000 in
theorem part20 {R : sProp 𝕄} {Q : _ → sProp 𝕄} (w w' : BitVec 32) (h : ∀ a b, iprop(records T K ∗ sentSt T c 18 ∗ R) ⊢ Q ⟨a, b⟩) :
    iprop(records T K ∗ sentSt T c 8 ∗ R) ⊢ WP c (ap (k0_part20 (F := F)) c (myi c) w w') Q := by
  rw [k0_part20_eq_skeleton]; unfold ap k0_part20_skel
  refine chain T K (sent_step T K c 8 (cond_lt c 8) rfl rfl rfl) ?_
  refine chain T K (sent_step T K c 9 (cond_lt c 9) rfl rfl rfl) ?_
  refine chain T K (sent_step T K c 10 (cond_lt c 10) rfl rfl rfl) ?_
  refine chain T K (sent_step T K c 11 (cond_lt c 11) rfl rfl rfl) ?_
  refine chain T K (sent_step T K c 12 (cond_lt c 12) rfl rfl rfl) ?_
  refine chain T K (sent_step T K c 13 (cond_lt c 13) rfl rfl rfl) ?_
  refine chain T K (sent_step T K c 14 (cond_lt c 14) rfl rfl rfl) ?_
  refine chain T K (sent_step T K c 15 (cond_lt c 15) rfl rfl rfl) ?_
  refine chain T K (sent_step T K c 16 (cond_lt c 16) rfl rfl rfl) ?_
  refine chain T K (sent_step T K c 17 (cond_lt c 17) rfl rfl rfl) ?_
  exact fin c (h _ _)

set_option maxHeartbeats 1000000 in
theorem part21 {R : sProp 𝕄} {Q : _ → sProp 𝕄} (w w' : BitVec 32) (h : ∀ a b, iprop(records T K ∗ sentSt T c 28 ∗ R) ⊢ Q ⟨a, b⟩) :
    iprop(records T K ∗ sentSt T c 18 ∗ R) ⊢ WP c (ap (k0_part21 (F := F)) c (myi c) w w') Q := by
  rw [k0_part21_eq_skeleton]; unfold ap k0_part21_skel
  refine chain T K (sent_step T K c 18 (cond_lt c 18) rfl rfl rfl) ?_
  refine chain T K (sent_step T K c 19 (cond_lt c 19) rfl rfl rfl) ?_
  refine chain T K (sent_step T K c 20 (cond_lt c 20) rfl rfl rfl) ?_
  refine chain T K (sent_step T K c 21 (cond_lt c 21) rfl rfl rfl) ?_
  refine chain T K (sent_step T K c 22 (cond_lt c 22) rfl rfl rfl) ?_
  refine chain T K (sent_step T K c 23 (cond_lt c 23) rfl rfl rfl) ?_
  refine chain T K (sent_step T K c 24 (cond_lt c 24) rfl rfl rfl) ?_
  refine chain T K (sent_step T K c 25 (cond_lt c 25) rfl rfl rfl) ?_
  refine chain T K (sent_step T K c 26 (cond_lt c 26) rfl rfl rfl) ?_
  refine chain T K (sent_step T K c 27 (cond_lt c 27) rfl rfl rfl) ?_
  exact fin c (h _ _)

end Sent

end Cert.CumProd

end
-- ==== Proof.Body.lean ====
/-
The kernel's body on one device: its pieces in a row.
-/
module

public import proofs.«01_k».proof.Proof.Slots
public import proofs.«01_k».proof.Proof.Units
public import proofs.«01_k».proof.Proof.Copies
public import proofs.«01_k».proof.Proof.Recvs
public import proofs.«01_k».proof.Proof.Sents

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

/-! ## What the body computes -/

section Value
variable (x : FVec F S512x512 .bf16)

/-- A block's rows after shifts by 1, 2, 4 and 8 rows have been multiplied in, -/
def scan4 : FVec F S512x512 .bf16 :=
  k0_pay8 (iota .tc S512x512 32 [0] iota_S512x512_d0_w32) k0_pay3
    (k0_pay7 (iota .tc S512x512 32 [0] iota_S512x512_d0_w32) k0_pay3
      (k0_pay6 (iota .tc S512x512 32 [0] iota_S512x512_d0_w32) k0_pay3
        (k0_pay5 x (iota .tc S512x512 32 [0] iota_S512x512_d0_w32) k0_pay3 (k0_pay4 x) 1#32)))
/-- and after those by 16 to 256 as well. -/
def scan9 : FVec F S512x512 .bf16 :=
  k0_pay11 (iota .tc S512x512 32 [0] iota_S512x512_d0_w32) k0_pay3
    (k0_pay9 (iota .tc S512x512 32 [0] iota_S512x512_d0_w32) k0_pay3 (scan4 x)) (k0_pay10 (iota .tc S512x512 32 [0] iota_S512x512_d0_w32) k0_pay3 (scan4 x))

/-- The devices in the order in which their rows are multiplied in. -/
abbrev order : List (Dev nD) :=
  [30, 29, 28, 27, 26, 25, 24, 23, 22, 21, 20, 19, 18, 17, 16, 15, 14, 13, 12, 11, 10, 9, 8, 7, 6, 5, 4, 3, 2, 1, 0]

/-- The block the body leaves on device `c`: its rows' products down from the block's first row, times the products of all rows of the
    devices before it. -/
def outOf : FVec F S512x512 .bf16 :=
  mulf (scan9 x) (broadcastTo S512x512 (pre T c ones order) broadcasts_S1x512_S512x512)

/-- What the last store stores is that block. -/
theorem out_eq {w : FVec F S1x512 .bf16} (h : (0 : Dev nD) < c → w = T 0) :
    k0_pay29 (scan9 x) k0_pay12 (pre T c (pre T c (pre T c (pre T c (pre T c (pre T c (pre T c (pre T c ones [30, 29]) [28, 27, 26, 25]) [24, 23, 22, 21])
      [20, 19, 18, 17]) [16, 15, 14, 13]) [12, 11, 10, 9]) [8, 7, 6, 5]) [4, 3, 2, 1]) (Scalar.cmpi .sgt (myi c) 0#32) w = outOf T c x := by
  unfold k0_pay29 outOf
  dsimp only
  rw [show Scalar.select (Scalar.cmpi .sgt (myi c) 0#32) w k0_pay12 = sel T c 0 from sel_eq T c 0 h]
  rfl

end Value

/-! ## The pieces in a row -/

section Body

theorem bindc {α β : Type} {X : sProp 𝕄} {p : Pg F α} {k : α → Pg F β} {Q : β → sProp 𝕄} (h : X ⊢ WP c p (fun a => WP c (k a) Q)) :
    X ⊢ WP c (p >>= k) Q := by
  unfold WP at h ⊢; rw [wp_bind]; exact h

/-- No copy comes to a device from the last one or from a later one: the last receive cell closes unwaited. -/
theorem close_last {α : Type} {P : Pg F α} {Q : α → sProp 𝕄} :
    iprop(records T K ∗ recvSt c 32) ⊢ iprop((recvSt (F := F) c 31 -∗ WP c P Q) -∗ WP c P Q) := by
  have hlt : ¬ (31 : Dev nD) < c := by revert c; decide +kernel
  iintro ⟨#HR, HO, Hup⟩ Hk
  ihave Hup' := (show up (recvB (F := F) c) (recvA c) 32 ⊢ _ from up_back (recvB (F := F) c) (recvA c) (31 : Dev nD)) $$ Hup
  icases Hup' with ⟨Hs, Hput⟩
  unfold recvB
  rw [if_neg hlt]
  icases Hs with ⟨Hat, Hs⟩
  imod (Rounds.cell_close ER (sched T) (Set.mem_univ (K (c, rIx 31))) (fun h => h) (R := 0) (fun r _ => duties_recv_none T c 31 hlt r)) $$ [Hat] with Hz
  · isplitr; · iapply (inv_of T K (c, rIx 31)); iexact HR
    iexact Hat
  iapply Hk
  isplitl [HO]; · iexact HO
  iapply (show _ ⊢ up (recvB (F := F) c) (recvA c) (31 : Dev nD).val from BI.Entails.refl _)
  iapply Hput
  unfold recvA
  isplitl [Hs] <;> iassumption

/-- Towards the copies at the start: the send cells' positions, and the tokens for those there are. -/
def sendQ : sProp 𝕄 := bigSep Finset.univ fun j : Dev nD => iprop(atPos ER (sendCell c j) 0 ∅ 0
  ∗ if c < j then iprop(dutyTok ER (sendCell c j) 0 j ∗ dutyTok ER (recvCell j c) 0 c) else iprop(emp))

/-- With the row stored, its shares go to the copies. -/
theorem copies_ready : iprop(pts c cc0_scratch0 (T c) ∗ sendQ (F := F) c) ⊢ bigSep Finset.univ fun j => sendP T c j := by
  rw [← row_eq, row_leaves]
  unfold sendQ sendP
  rw [← bigSep_sep']
  refine bigSep_mono fun j _ => ?_
  show (_ : sProp 𝕄) ⊢ _
  iintro ⟨Hr, Ha, Ht⟩
  isplitl [Ha]; · iexact Ha
  isplitl [Hr] <;> iassumption

/-- After the copies the waits for the rows can start; -/
theorem turn {R W : sProp 𝕄} (h : iprop(records T K ∗ recvSt c 32 ∗ (up (sendC T c) (sendA T c) 0 ∗ R)) ⊢ W) :
    iprop(records T K ∗ sendSt T c 32 ∗ (bigSep Finset.univ (recvB (F := F) c) ∗ R)) ⊢ W := by
  refine BIBase.Entails.trans ?_ h
  dsimp only [sendSt, recvSt]
  rw [up_zero, up_all, up_all, owedSend_last]
  iintro ⟨HR, ⟨HO, Ha⟩, Hr, H⟩
  isplitl [HR]; · iexact HR
  isplitl [HO Hr]
  · isplitl [HO] <;> iassumption
  isplitl [Ha] <;> iassumption

/-- after those, the waits for the copies. -/
theorem turn' {A R W : sProp 𝕄} (h : iprop(records T K ∗ sentSt T c 0 ∗ A ∗ (bigSep Finset.univ (recvA (F := F) c) ∗ R)) ⊢ W) :
    iprop(records T K ∗ recvSt c 0 ∗ (up (sendC T c) (sendA T c) 0 ∗ (A ∗ R))) ⊢ W := by
  refine BIBase.Entails.trans ?_ h
  dsimp only [recvSt, sentSt]
  rw [up_zero (recvB c)]
  iintro ⟨HR, ⟨HO, Hr⟩, Ha, HA, H⟩
  isplitl [HR]; · iexact HR
  isplitl [HO Ha]
  · isplitl [HO] <;> iassumption
  isplitl [HA]; · iexact HA
  isplitl [Hr] <;> iassumption

/-- The first buffer at work is the block's, the second the row's. -/
theorem turn₁ {A B R W : sProp 𝕄} {S : sProp 𝕄} (h : iprop(records T K ∗ S ∗ B ∗ (A ∗ R)) ⊢ W) :
    iprop(records T K ∗ S ∗ A ∗ (B ∗ R)) ⊢ W := by
  refine BIBase.Entails.trans ?_ h
  iintro ⟨HR, HS, HA, HB, H⟩
  isplitl [HR]; · iexact HR
  isplitl [HS]; · iexact HS
  isplitl [HB]; · iexact HB
  isplitl [HA] <;> iassumption

/-- With the row stored, what the copies take is together. -/
theorem turn₂ {R S W : sProp 𝕄} {X : sProp 𝕄} (h : iprop(records T K ∗ S ∗ ((barB c ∗ bigSep Finset.univ fun j => sendP T c j) ∗ (X ∗ R))) ⊢ W) :
    iprop(records T K ∗ S ∗ pts c cc0_scratch0 (T c) ∗ (X ∗ barB c ∗ sendQ (F := F) c ∗ R)) ⊢ W := by
  refine BIBase.Entails.trans ?_ h
  iintro ⟨HR, HS, Hrow, HX, Hb, Hq, H⟩
  isplitl [HR]; · iexact HR
  isplitl [HS]; · iexact HS
  isplitl [Hrow Hb Hq]
  · isplitl [Hb]; · iexact Hb
    iapply (copies_ready T c)
    isplitl [Hrow] <;> iassumption
  isplitl [HX] <;> iassumption

theorem turn₃ {A B S R X W : sProp 𝕄} (h : iprop(records T K ∗ S ∗ (A ∗ (B ∗ X ∗ R))) ⊢ W) : iprop(records T K ∗ S ∗ (X ∗ (R ∗ A ∗ B))) ⊢ W := by
  refine BIBase.Entails.trans ?_ h
  iintro ⟨HR, HS, HX, H, HA, HB⟩
  isplitl [HR]; · iexact HR
  isplitl [HS]; · iexact HS
  isplitl [HA]; · iexact HA
  isplitl [HB]; · iexact HB
  isplitl [HX] <;> iassumption

set_option maxHeartbeats 4000000 in
/-- The whole body: it leaves the block `outOf`, the shares of the row back, the slots back and every cell of the device closed. -/
theorem body_run (x : Buf (Elt F) ((c : Thread nD τ).loc cc0_stg0_0)) (f : Buf (Elt F) ((c : Thread nD τ).loc cc0_scratch0))
    (g : Buf (Elt F) ((c : Thread nD τ).loc cc0_stg1_0)) (hT : T c = k0_pay2 (k0_pay1 x)) {Q : PUnit → sProp 𝕄}
    (h : iprop(records T K ∗ sentSt T c 32 ∗ pts c cc0_stg1_0 (outOf T c (k0_pay1 x)) ∗ (bigSep Finset.univ (recvA (F := F) c) ∗ semVal (barCell c) 0 ∗ pts c cc0_stg0_0 x)) ⊢ Q ⟨⟩) :
    iprop(records T K ∗ sigSt c 1 ∗ pts c cc0_stg0_0 x ∗ (pts c cc0_scratch0 f ∗ barB c ∗ sendQ (F := F) c ∗ bigSep Finset.univ (recvB (F := F) c) ∗ pts c cc0_stg1_0 g))
      ⊢ WP c (ap (cc0_body (F := F))) Q := by
  rw [cc0_body_eq_skeleton]; unfold ap cc0_body_skel
  refine bindc c (part1 T K c x (turn₁ T K ?_))
  refine bindc c (part2 T K c (k0_pay1 x) f ?_)
  rw [← hT]
  refine turn₂ T K c ?_
  refine bindc c (part3 T K c _ _ _ _ _ fun _ _ => ?_)
  refine bindc c (part4 T K c _ _ _ _ _ ?_)
  refine bindc c (part5 T K c _ _ _ fun _ => ?_)
  refine bindc c (part6 T K c _ _ _ _ fun _ => ?_)
  refine bindc c (part7 T K c _ fun _ => ?_)
  refine turn₃ T K ?_
  refine bindc c (part8 T K c _ fun _ => ?_)
  refine bindc c (part9 T K c _ fun _ => ?_)
  refine bindc c (part10 T K c _ _ _ _ ?_)
  refine turn T K c (chain T K (close_last T K c) ?_)
  refine bindc c (part11 T K c _ _ _ _ fun w h0 => ?_)
  refine bindc c (part12 T K c _ w h0 fun w h0 => ?_)
  refine bindc c (part13 T K c _ w h0 fun w h0 => ?_)
  refine bindc c (part14 T K c _ w h0 fun w h0 => ?_)
  refine bindc c (part15 T K c _ w h0 fun w h0 => ?_)
  refine bindc c (part16 T K c _ w h0 fun w h0 => ?_)
  refine bindc c (part17 T K c _ w h0 fun w h0 => ?_)
  refine bindc c (part18 T K c _ w h0 fun w h0 => turn' T K c ?_)
  refine bindc c (part19 T K c _ _ w _ g fun _ _ => ?_)
  refine bindc c (part20 T K c _ _ fun _ _ => ?_)
  refine bindc c (part21 T K c _ _ fun _ _ => ?_)
  refine chain T K (sent_step T K c 28 (cond_lt c 28) rfl rfl rfl) ?_
  refine chain T K (sent_step T K c 29 (cond_lt c 29) rfl rfl rfl) ?_
  refine chain T K (sent_step T K c 30 (cond_lt c 30) rfl rfl rfl) ?_
  refine chain T K (sent_step T K c 31 (cond_lt c 31) rfl rfl rfl) ?_
  rw [← out_eq T c (k0_pay1 x) h0] at h
  exact fin c h

end Body

end Cert.CumProd

end
-- ==== Proof.Deal.lean ====
/-
What each device holds when its kernel starts: the launch's cells and duties, dealt to the devices that use them, and the
units and copies a device may count on.
-/
module

public import proofs.«01_k».proof.Proof.Body

@[expose] public section

set_option maxRecDepth 16384

noncomputable section

namespace Cert.CumProd

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → (S1x512.Idx → Elt F .bf16)) (K : Dev nD × KI → ℕ) (c : Dev nD)

/-! ## The cells and the duties of the launch -/

/-- Over a device's semaphores: the barrier's, the sends' and the receives'. -/
theorem over_KI (Φ : KI → sProp 𝕄) :
    bigSep Finset.univ Φ = iprop(Φ bIx ∗ (bigSep Finset.univ fun j => Φ (sIx j)) ∗ bigSep Finset.univ fun j => Φ (rIx j)) := by
  rw [bigSep_univ_sum, bigSep_univ_sum, bigSep_univ_of_subsingleton ()]
  rfl

/-- All cells of the kernel. -/
def allCells : Finset (GSem nD τ sig) := Finset.univ.map ⟨kcell, kcell_injective⟩

/-- A name for each duty: of device `d`'s barrier, of its send cell `e` or of its receive cell `e`. -/
abbrev Duty : Type := Dev nD × (Dev nD ⊕ (Dev nD ⊕ Dev nD))
/-- The duty itself: at a send cell it is the named device's own, at a receive cell also. -/
abbrev dutyAt : Duty → GSem nD τ sig × ℕ × Dev nD
  | (d, .inl e) => (barCell d, 0, e)
  | (d, .inr (.inl e)) => (sendCell d e, 0, e)
  | (d, .inr (.inr e)) => (recvCell d e, 0, e)

theorem dutyAt_injective : Function.Injective dutyAt := by
  have hd (x : Duty) : (dutyAt x).1.1.1 = x.1 := by rcases x with ⟨d, e | e | e⟩ <;> rfl
  have he (x : Duty) : (dutyAt x).2.2 = (Sum.elim id (Sum.elim id id) x.2 : Dev nD) := by rcases x with ⟨d, e | e | e⟩ <;> rfl
  intro x y h
  have h1 : x.1 = y.1 := by rw [← hd, ← hd, h]
  have h2 : (Sum.elim id (Sum.elim id id) x.2 : Dev nD) = Sum.elim id (Sum.elim id id) y.2 := by rw [← he, ← he, h]
  have h3 : (dutyAt x).1.2 = (dutyAt y).1.2 := by rw [h]
  obtain ⟨d, e | e | e⟩ := x <;> obtain ⟨d', e' | e' | e'⟩ := y <;>
    (obtain rfl : d = d' := h1; obtain rfl : e = e' := h2)
  · rfl
  · exact absurd h3.symm (dma_ne_bar _)
  · exact absurd h3.symm (dma_ne_bar _)
  · exact absurd h3 (dma_ne_bar _)
  · rfl
  · exact absurd h3 (send_ne_recv _ _)
  · exact absurd h3 (dma_ne_bar _)
  · exact absurd h3.symm (send_ne_recv _ _)
  · rfl

/-- All duties of the kernel (some of them are never paid). -/
def allDuties : Finset (GSem nD τ sig × ℕ × Dev nD) := Finset.univ.map ⟨dutyAt, dutyAt_injective⟩

/-- The launch's element: the staging pipeline's rounds and this kernel's. -/
def u₀ : UU :=
  (initOf (Pipeline.cells cfgs cellOf_inj) (Pipeline.launchToks cfgs cellOf_inj), initOf allCells allDuties)

/-- The tokens of the duties at device `c`'s own cells. -/
def ownToks : sProp 𝕄 :=
  iprop((bigSep Finset.univ fun e : Dev nD => dutyTok ER (barCell c) 0 e)
    ∗ (bigSep Finset.univ fun e : Dev nD => dutyTok ER (sendCell c e) 0 e)
    ∗ bigSep Finset.univ fun e : Dev nD => dutyTok ER (recvCell c e) 0 e)

/-- The tokens of the duties that device `c` pays. -/
def payToks : sProp 𝕄 :=
  iprop((bigSep Finset.univ fun k : Dev nD => dutyTok ER (barCell (c + k)) 0 c)
    ∗ (bigSep Finset.univ fun e : Dev nD => dutyTok ER (sendCell c e) 0 e)
    ∗ bigSep Finset.univ fun e : Dev nD => dutyTok ER (recvCell e c) 0 c)

/-- A device's positions in its cells' rounds. -/
def places : sProp 𝕄 := bigSep Finset.univ fun k : KI => atPos ER (kcell (c, k)) 0 ∅ 0

/-- What the launch's element gives to device `c`. -/
def G : sProp 𝕄 :=
  iprop((bigSep Finset.univ fun k : KI => roundState ER (sched T) (kcell (c, k)) 0)
    ∗ places c ∗ (bigSep Finset.univ fun k : KI => reached ER (kcell (c, k)) 0) ∗ ownToks c)

/-- What it starts from: every cell's record, its own positions, and the tokens it pays with. -/
def G' : sProp 𝕄 := iprop(∃ K, records T K ∗ places c ∗ payToks c)

/-- The launch's element is every device's part. -/
theorem fund_all : BI.own (ER (initOf allCells allDuties)) ⊢ (|==> bigSep Finset.univ (G T) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => ownToks c := by
    unfold allDuties; rw [bigSep_map, bigSep_univ_prod]
    refine bigSep_congr fun c _ => ?_
    rw [bigSep_univ_sum, bigSep_univ_sum]; rfl
  refine (Rounds.fund ER (sched T) allCells allDuties).trans (BI.bupd_mono ?_)
  rw [hX, hX, hX, hT]
  unfold G places
  rw [bigSep_sep', bigSep_sep', bigSep_sep']
  show (_ : sProp 𝕄) ⊢ _
  iintro ⟨Hst, Hr, Hat, Htok⟩
  isplitl [Hst]; · iexact Hst
  isplitl [Hat]; · iexact Hat
  isplitl [Hr] <;> iassumption

/-! ## The semaphores -/

/-- The kernel's own semaphores are the sends' and the receives'; -/
theorem ownSems0_eq : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0
  rw [bigSep_univ_sum]
  rfl
/-- the barrier semaphore is the one that outlives it. -/
theorem unscopedSems0_eq : (unscopedSems0 c : sProp 𝕄) = semVal (barCell c) 0 := by
  unfold unscopedSems0; rw [bigSep_eq_bigSepL_of_eq [SemLoc.reg barS] (by decide) (by decide)]; rfl

/-- A device's cells at zero, with their rounds' states, become invariants. -/
theorem cells_open :
    iprop(Pipeline.ownSems0 (Ix := Unit) (Name := ℕ) (U := UU) (Lvl := ℕ) (Val := Elt F) (τ := τ) osem c ∗ unscopedSems0 c ∗ G T c)
      ⊢ |={Set.univ}=> iprop((bigSep Finset.univ fun k => iprop(∃ κ : ℕ, cellInv ER (sched T) κ (kcell (c, k))))
          ∗ places c ∗ (bigSep Finset.univ fun k : KI => reached ER (kcell (c, k)) 0) ∗ ownToks c) := by
  have hv : iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
    rw [ownSems0_eq, unscopedSems0_eq, over_KI]
    iintro ⟨Hs, Hb⟩
    isplitl [Hb]; · iexact Hb
    iexact Hs
  have hi : iprop((bigSep Finset.univ fun k : KI => semVal (kcell (c, k)) 0) ∗ bigSep Finset.univ fun k : KI => roundState ER (sched T) (kcell (c, k)) 0)
      ⊢ (|={Set.univ}=> bigSep Finset.univ fun k => iprop(∃ κ : ℕ, cellInv ER (sched T) κ (kcell (c, k))) : sProp 𝕄) := by
    rw [← bigSep_sep']
    exact (bigSep_mono fun k _ => (Rounds.body_intro ER (sched T) (kcell (c, k))).trans inv_alloc).trans (bigSep_fupd _ _)
  unfold G
  iintro ⟨Hos, Hus, Hst, H⟩
  ihave Hv := hv $$ [Hos Hus]
  · isplitl [Hos] <;> iassumption
  imod hi $$ [Hv Hst] with Hinv
  · isplitl [Hv] <;> iassumption
  imodintro
  isplitl [Hinv] <;> iassumption

/-- The tokens go round: each from the cell's device to the device that pays it. -/
theorem toks_dealt : (bigSep Finset.univ fun c : Dev nD => (ownToks c : sProp 𝕄)) ⊢ bigSep Finset.univ fun c : Dev nD => payToks c := by
  have hb : (bigSep Finset.univ fun c : Dev nD => bigSep Finset.univ fun e : Dev nD => (dutyTok ER (barCell c) 0 e : sProp 𝕄))
      = bigSep Finset.univ fun c : Dev nD => bigSep Finset.univ fun k : Dev nD => dutyTok ER (barCell (c + k)) 0 c := by
    rw [bigSep_univ_comm]
    exact bigSep_congr fun e _ => bigSep_univ_equiv (around e) (fun d : Dev nD => (dutyTok ER (barCell d) 0 e : sProp 𝕄))
  have hr : (bigSep Finset.univ fun c : Dev nD => bigSep Finset.univ fun e : Dev nD => (dutyTok ER (recvCell c e) 0 e : sProp 𝕄))
      = bigSep Finset.univ fun c : Dev nD => bigSep Finset.univ fun e : Dev nD => dutyTok ER (recvCell e c) 0 c := bigSep_univ_comm _
  unfold ownToks payToks
  rw [bigSep_sep', bigSep_sep', bigSep_sep', bigSep_sep', hb, hr]

/-- All devices' parts together: each knows every cell's record. -/
theorem all_know :
    (bigSep Finset.univ fun c : Dev nD => iprop((bigSep Finset.univ fun k => iprop(∃ κ : ℕ, cellInv ER (sched T) κ (kcell (c, k))))
          ∗ places c ∗ (bigSep Finset.univ fun k : KI => reached ER (kcell (c, k)) 0) ∗ ownToks c) : sProp 𝕄)
      ⊢ bigSep Finset.univ (G' T) := by
  rw [bigSep_sep', bigSep_sep', bigSep_sep', ← bigSep_univ_prod (fun ck : Dev nD × KI => iprop(∃ κ : ℕ, cellInv ER (sched T) κ (kcell ck))),
    ← bigSep_univ_prod (fun ck : Dev nD × KI => (reached ER (kcell ck) 0 : sProp 𝕄))]
  iintro ⟨HI, Hat, #HR, Htok⟩
  ihave HK := (BI.bigSep_exists_pi Finset.univ (fun (ck : Dev nD × KI) (κ : ℕ) => (cellInv ER (sched T) κ (kcell ck) : sProp 𝕄))) $$ HI
  icases HK with ⟨%K, #HI⟩
  ihave Htk := (toks_dealt (F := F)) $$ Htok
  iapply (show iprop((bigSep Finset.univ fun _ : Dev nD => records T K) ∗ (bigSep Finset.univ fun c : Dev nD => places c) ∗ bigSep Finset.univ fun c : Dev nD => payToks c)
      ⊢ bigSep Finset.univ (G' T) from by
    rw [← bigSep_sep', ← bigSep_sep']
    refine bigSep_mono fun c _ => ?_
    unfold G'
    show (_ : sProp 𝕄) ⊢ _
    iintro H
    iexists K
    iexact H)
  isplitr
  · iapply (BI.bigSep_of_persistent (Finset.univ : Finset (Dev nD)) (records T K))
    unfold records
    isplitl; · iexact HI
    iexact HR
  isplitl [Hat] <;> iassumption

/-- The launch's step over all devices. -/
theorem glob : (bigSep Finset.univ fun c => iprop(Pipeline.ownSems0 (Ix := Unit) (Name := ℕ) (U := UU) (Lvl := ℕ) (Val := Elt F) (τ := τ) osem c ∗ unscopedSems0 c ∗ G T c) : sProp 𝕄)
    ⊢ |={Set.univ}=> bigSep Finset.univ (G' T) :=
  ((bigSep_mono fun c _ => cells_open T c).trans (bigSep_fupd _ _)).trans (BI.fupd_mono (all_know T))

/-! ## What a device may count on -/

theorem bar_eq {a b : Dev nD} (h : barCell a = barCell b) : a = b := congrArg (fun g : GSem nD τ sig => g.1.1) h
theorem recv_eq {a b j k : Dev nD} (h : recvCell a j = recvCell b k) : a = b ∧ j = k :=
  ⟨congrArg (fun g : GSem nD τ sig => g.1.1) h, recv_inj (congrArg Prod.snd h)⟩

/-- Device `d` owes every other device's barrier one unit. -/
theorem owed_bar (d : Dev nD) : O₀ d (barCell c) () = if d = c then 0 else 1 := by
  have h1 : owedSend d 0 (barCell c) () = 0 := by
    rcases Nat.eq_zero_or_pos (owedSend d 0 (barCell c) ()) with h | h
    · exact h
    · obtain ⟨j, hj⟩ := owedSend_pos h
      exact absurd (congrArg Prod.snd hj).symm (dma_ne_bar _)
  have h2 : owedSig d 1 (barCell c) () = ∑ k : Dev nD, if 1 ≤ k.val ∧ c = d + k then 1 else 0 := by
    unfold owedSig
    rw [Finset.sum_apply, Finsupp.finsetSum_apply]
    refine Finset.sum_congr rfl fun k _ => ?_
    by_cases hk : 1 ≤ k.val
    · rw [if_pos hk, tallyAt_apply]
      refine if_congr ⟨fun h => ⟨hk, bar_eq h.1⟩, fun h => ⟨by rw [h.2], rfl⟩⟩ rfl rfl
    · rw [if_neg hk, if_neg (fun h => hk h.1)]; rfl
  have h3 : ∀ d c : Dev nD, (∑ k : Dev nD, if 1 ≤ k.val ∧ c = d + k then 1 else 0) = if d = c then 0 else 1 := by decide +kernel
  unfold O₀ owedBar
  rw [Pi.add_apply, Finsupp.add_apply, h1, h2, h3, Nat.zero_add]

/-- Device `d` owes the receive cell `j` of device `c` a copy if it is device `j` and `c` comes after it. -/
theorem owed_recv (d j : Dev nD) : O₀ d (recvCell c j) () = if d = j then (if j < c then N else 0) else 0 := by
  have h1 : owedSend d 0 (recvCell c j) () = ∑ e : Dev nD, if e = c then (if d = j then (if j < c then N else 0) else 0) else 0 := by
    unfold owedSend
    rw [Finset.sum_apply, Finsupp.finsetSum_apply]
    refine Finset.sum_congr rfl fun e _ => ?_
    by_cases hk : d < e
    · rw [if_pos ⟨Nat.zero_le _, hk⟩, tallyAt_apply]
      by_cases he : e = c
      · subst he
        by_cases hj : d = j
        · subst hj; rw [if_pos ⟨rfl, rfl⟩, if_pos rfl, if_pos rfl, if_pos hk]
        · rw [if_neg (fun h => hj (recv_eq h.1).2.symm), if_pos rfl, if_neg hj]
      · rw [if_neg (fun h => he (recv_eq h.1).1.symm), if_neg he]
    · rw [if_neg (fun h => hk h.2)]
      by_cases he : e = c
      · subst he
        by_cases hj : d = j
        · subst hj; rw [if_pos rfl, if_pos rfl, if_neg hk]; rfl
        · rw [if_pos rfl, if_neg hj]; rfl
      · rw [if_neg he]; rfl
  have h2 : owedSig d 1 (recvCell c j) () = 0 := by
    rcases Nat.eq_zero_or_pos (owedSig d 1 (recvCell c j) ()) with h | h
    · exact h
    · unfold owedSig at h
      obtain ⟨k, hk⟩ := tally_sum_pos h
      split at hk
      · exact absurd (congrArg Prod.snd (tallyAt_pos hk)) (dma_ne_bar _)
      · exact absurd hk (Nat.lt_irrefl 0)
  unfold O₀ owedBar
  rw [Pi.add_apply, Finsupp.add_apply, h1, h2, Finset.sum_ite_eq', if_pos (Finset.mem_univ _), Nat.add_zero]

/-- At its barrier a device may count on 31 units; -/
theorem launch_bar :
    tallyOn (barCell c) (launchCredit (Pipeline.owing O₀) 0 (barCell c)) = (tallyAt (barCell c) () 31 : CellTallies nD τ sig Unit) := by
  have h : ∀ c : Dev nD, (∑ d : Dev nD, if d = c then 0 else 1) = 31 := by decide +kernel
  unfold tallyAt; refine congrArg _ (Finsupp.ext fun u => ?_); cases u
  rw [Pipeline.launchCredit_owing, Finsupp.single_eq_same, Finset.sum_congr rfl fun d _ => owed_bar c d, h]

/-- at the receive cell of a device before it, on a copy. -/
theorem launch_recv (j : Dev nD) (hj : j < c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv c d j, Finset.sum_ite_eq', if_pos (Finset.mem_univ _), if_pos hj]

/-- The launch's credits of a device. -/
theorem creds : (Pipeline.launchCred O₀ c : sProp 𝕄) ⊢ iprop(cred (tallyAt (barCell c) () 31)
    ∗ bigSep Finset.univ fun j : Dev nD => if j < c then cred (tallyAt (recvCell c j) () N) else iprop(emp)) := by
  unfold Pipeline.launchCred
  refine (bigSep_subset (Finset.subset_univ (Finset.univ.map ⟨csem, csem_injective⟩))).trans ?_
  rw [bigSep_map, over_KI]
  refine BIBase.Entails.trans (Q := iprop(cred (tallyAt (barCell c) () 31)
      ∗ bigSep Finset.univ fun j : Dev nD => cred (tallyOn (recvCell c j) (launchCredit (Pipeline.owing O₀) 0 (recvCell c j))))) ?_ ?_
  · rw [← launch_bar]
    iintro ⟨Hb, -, Hr⟩
    isplitl [Hb] <;> iassumption
  · refine sep_mono_right (bigSep_mono fun j _ => ?_)
    by_cases h : j < c
    · rw [if_pos h, launch_recv c j h]; exact BI.Entails.refl _
    · rw [if_neg h]
      show (_ : sProp 𝕄) ⊢ _
      iintro -
      iempintro

end Cert.CumProd

end
-- ==== Proof.Run.lean ====
/-
The run of the sharded cumulative product: from any memory with the counters at zero it ends, every device's result is its
block scaled by the totals of the devices before it, the input is as it was, and the counters are at zero again.
-/
module

public import proofs.«01_k».proof.Proof.Deal
public import Idealize.ShloMosaic.Lib.Pipeline.CollectiveSegs

@[expose] public section

set_option maxRecDepth 16384

noncomputable section

namespace Cert.CumProd

open Cert.KernelIdeal Cert.KernelIdeal.Gen

open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What a device computes -/

/-- The block of the input that device `c` holds. -/
def blockOf : (cc0_stg0_0 : Ref sig .tc).ty.Contents (Elt F) :=
  (win0_0.blk (0 : Fin 1)).view.read (Elt F) (m ((c : Thread nD τ).loc main_arg0))

/-- The row of products device `c` sends. -/
def rowOf : Dev nD → (S1x512.Idx → Elt F .bf16) := fun d => k0_pay2 (k0_pay1 (blockOf m d))

/-- What it leaves in the result's buffer. -/
def resultOf : (cc0_stg1_0 : Ref sig .tc).ty.Contents (Elt F) := outOf (rowOf m) c (k0_pay1 (blockOf m c))

/-! ## The launch's data -/

/-- What a device starts from. -/
def start : sProp 𝕄 :=
  iprop(G' (rowOf m) c ∗ cred (tallyAt (barCell c) () 31)
    ∗ (bigSep Finset.univ fun j : Dev nD => if j < c then cred (tallyAt (recvCell c j) () N) else iprop(emp)) ∗ levAts L lv)

/-- The row's buffer and the slots' buffer, at any contents. -/
def scratches : sProp 𝕄 := iprop((∃ f, pts (F := F) c cc0_scratch0 f) ∗ ∃ f, pts (F := F) c cc0_scratch1 f)

/-- All of a device's counters at zero. -/
def zeros : sProp 𝕄 := iprop(semVal (barCell c) 0 ∗ (bigSep Finset.univ fun j : Dev nD => semVal (sendCell c j) 0)
  ∗ bigSep Finset.univ fun j : Dev nD => semVal (recvCell c j) 0)

theorem cfg0_N : cfg0.N = 1 := N_0
def t₀ : Fin cfg0.N := t0_0

def dats (_ : Fin 1) (c : Dev nD) : Dat τ (Elt F) Unit ℕ UU ℕ cfg0 c where
  A w := m ((cfg0.win w).arr.view.loc (c : Thread nD τ))
  after w _ := match w with
    | ⟨0, _⟩ => blockOf m c
    | ⟨1, _⟩ => resultOf m c
  Φ t := match t with
    | ⟨0, _⟩ => iprop(start m c ∗ scratches c)
    | ⟨_ + 1, _⟩ => iprop(scratches c ∗ zeros c)
  q _ := fullShare
  owed t := match t with
    | ⟨0, _⟩ => O₀ c
    | ⟨_ + 1, _⟩ => 0

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pts c b f) := by
  unfold owns; simp only [Memref.view_whole, View.read_whole, View.set_whole]

/-- Before the body: its start, what it owes, the block in its buffer and the result's buffer. -/
def before₀ : sProp 𝕄 :=
  iprop((start m c ∗ scratches c) ∗ (dats m 0 c).owesAt () t₀.castSucc
    ∗ (∃ d, ∃ f : Buf (Elt F) ((c : Thread nD τ).loc cc0_stg0_0), ⌜f = (dats m 0 c).before (0 : Fin 2) t₀ d⌝ ∗ pts c cc0_stg0_0 f)
    ∗ (∃ d, ∃ f : Buf (Elt F) ((c : Thread nD τ).loc cc0_stg1_0), ⌜f = (dats m 0 c).before (1 : Fin 2) t₀ d⌝ ∗ pts c cc0_stg1_0 f))

/-- After it: its buffers, its counters at zero, nothing owed, and the result. -/
def after₀ : sProp 𝕄 :=
  iprop((scratches c ∗ zeros c) ∗ (dats m 0 c).owesAt () t₀.succ
    ∗ (∃ f : Buf (Elt F) ((c : Thread nD τ).loc cc0_stg0_0), ⌜f = blockOf m c⌝ ∗ pts c cc0_stg0_0 f)
    ∗ (∃ f : Buf (Elt F) ((c : Thread nD τ).loc cc0_stg1_0), ⌜f = resultOf m c⌝ ∗ pts c cc0_stg1_0 f))

/-- The copies' ends: each knows its place and, where there is a copy, its two tokens. -/
theorem ends_ready :
    iprop((bigSep Finset.univ fun j : Dev nD => (atPos ER (sendCell c j) 0 ∅ 0 : sProp 𝕄))
        ∗ (bigSep Finset.univ fun e : Dev nD => dutyTok ER (sendCell c e) 0 e) ∗ bigSep Finset.univ fun e : Dev nD => dutyTok ER (recvCell e c) 0 c)
      ⊢ sendQ (F := F) c := by
  unfold sendQ
  rw [← bigSep_sep', ← bigSep_sep']
  refine bigSep_mono fun j _ => ?_
  show (_ : sProp 𝕄) ⊢ _
  iintro ⟨Ha, Ht⟩
  isplitl [Ha]; · iexact Ha
  by_cases h : c < j
  · rw [if_pos h]; iexact Ht
  · rw [if_neg h]; iempintro

/-- After the body every buffer and counter is there again. -/
theorem after_intro (K : Dev nD × KI → ℕ) :
    iprop(records (rowOf m) K ∗ sentSt (rowOf m) c 32 ∗ pts c cc0_stg1_0 (resultOf m c)
        ∗ (bigSep Finset.univ (recvA (F := F) c) ∗ semVal (barCell c) 0 ∗ pts c cc0_stg0_0 (blockOf m c)))
      ⊢ after₀ m c := by
  dsimp only [sentSt]
  rw [up_all]
  unfold sendC recvA
  rw [bigSep_sep', bigSep_sep', ← row_leaves, row_eq]
  unfold after₀ scratches zeros owesSome Dat.owesAt Pipeline.owesWithin
  rw [show (dats m 0 c).owed t₀.succ = 0 from rfl]
  iintro ⟨-, ⟨⟨%W, HO⟩, Hrow, HzS⟩, Hout, ⟨Hsl, HzR⟩, HzB, Hx⟩
  ihave Hsl := (slots_join (F := F) c) $$ Hsl
  isplitl [Hrow HzS Hsl HzR HzB]
  · isplitl [Hrow Hsl]
    · isplitl [Hrow]
      · iexists (rowOf m c); iexact Hrow
      iexact Hsl
    isplitl [HzB]; · iexact HzB
    isplitl [HzS] <;> iassumption
  isplitl [HO]
  · iexists W
    isplitr
    · ipureintro; exact fun _ _ => Or.inl trivial
    iexact HO
  isplitl [Hx]
  · iexists (blockOf m c)
    isplitr; · ipureintro; rfl
    iexact Hx
  iexists (resultOf m c)
  isplitr; · ipureintro; rfl
  iexact Hout

/-- The body, from its start to its end. -/
theorem sound_body : before₀ m c ⊢ WP c (ap (cc0_body (F := F))) (fun _ => after₀ m c) := by
  unfold before₀ start G' scratches payToks places
  rw [over_KI]
  iintro ⟨⟨⟨⟨%K, #HR, ⟨HaB, HaS, HaR⟩, HtB, HtS, HtR⟩, HcB, HcR, #Hlev⟩, ⟨%f, Hrow⟩, Hsl⟩, Ho, ⟨%d0, %g0, %hg0, Hx⟩, ⟨%d1, %g1, %hg1, Hout⟩⟩
  have hx : g0 = blockOf m c := by rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m 0 c).owed t₀.castSucc = owedBar c 1 from rfl]
  iapply (body_run (rowOf m) K c (blockOf m c) f g1 rfl (after_intro m c K))
  ihave Hsl := (slots_split (F := F) c) $$ Hsl
  ihave Hsl := (slots_deal (F := F) c) $$ Hsl
  icases Hsl with ⟨Hpay, Hkeep⟩
  isplitr; · iexact HR
  isplitl [HO HtB Hpay]
  · dsimp only [sigSt]
    isplitl [HO]
    · unfold owesSome; iexists W; iexact HO
    iapply (sigs_ready (F := F) c)
    isplitl [HtB] <;> iassumption
  isplitl [Hx]; · iexact Hx
  isplitl [Hrow]; · iexact Hrow
  isplitl [HaB HcB]
  · unfold barB
    isplitr; · iexact Hlev
    isplitl [HaB] <;> iassumption
  isplitl [HaS HtS HtR]
  · iapply (ends_ready (F := F) c)
    isplitl [HaS]; · iexact HaS
    isplitl [HtS] <;> iassumption
  isplitl [HaR HcR Hkeep]
  · iapply (recvs_ready (F := F) c)
    isplitl [HaR]; · iexact HaR
    isplitl [HcR] <;> iassumption
  iexact Hout

theorem body_obligation : BodyObligation (dats (F := F) m 0 c) (defs₀ (F := F)) 𝒱₀ () Set.univ := fun t => by
  rw [fin_N0 t]
  rw [bigSep_W0, bigSep_W0]
  simp only [owns_whole]
  exact sound_body m c

/-! ## The launch's conditions -/

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (rowOf m) c)
      ⊢ |={Set.univ}=> iprop(start m c ∗ emp) := by
  iintro ⟨-, Hlev, Hcr, -, HG⟩
  ihave Hc := (creds (F := F) c) $$ Hcr
  icases Hc with ⟨Hb, Hr⟩
  imodintro
  unfold start
  isplitl
  · isplitl [HG]; · iexact HG
    isplitl [Hb]; · iexact Hb
    isplitl [Hr] <;> iassumption
  · iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratches c) from rfl, scopedRest0_eq]
  unfold scratches
  iintro ⟨Hs, -, Hr⟩
  isplitl [Hs] <;> iassumption

theorem leave :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratches c ∗ zeros c) from rfl, scopedRest0_eq, ownSems0_eq, unscopedSems0_eq]
  unfold scratches zeros
  iintro ⟨Hr, HzB, HzS, HzR⟩
  isplitl [HzB]; · iexact HzB
  isplitl [HzS HzR]
  · isplitl [HzS] <;> iassumption
  iexact Hr

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

/-- The windows' arrays on every device after the run. -/
def Done (r : PUnit × MemSt nD τ sig (Elt F)) : Prop :=
  ∀ c : Dev nD, ∀ w : Fin cfg0.W, r.2.mem ((cfg0.win w).arr.view.loc (c : Thread nD τ)) = (dats m 0 c).arrAt w cfg0.N

/-- From any memory with the counters at zero, every fair run of the 32 devices ends; then the arrays are as computed and
    the counters at zero. -/
theorem run_all : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (rowOf m)) (G' := G' (rowOf m)) (u₀ := u₀)
    (hu₀ := by
      unfold u₀
      iintro Hu
      ihave H := (ownU_pair _ _) $$ Hu
      icases H with ⟨HP, HX⟩
      imod (fund_all (rowOf m)) $$ HX with HG
      imodintro
      isplitl [HP] <;> iassumption)
    (hglob := glob (rowOf m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array is as it was. -/
theorem arr_in : (dats m 0 c).arrAt (0 : Fin 2) cfg0.N = m ((c : Thread nD τ).loc main_arg0) :=
  (dats (F := F) m 0 c).arrAt_in (0 : Fin 2) rfl _

/-- The input is unchanged and the counters are at zero, for any float values. -/
theorem run_frame : θ_run defs (onTc (τ := τ) (main (F := F))) ⟨m, fun _ => 0, ρ⟩
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c (0 : Fin 2)).trans (arr_in m c), h.2⟩) (run_all m ρ)

end Cert.CumProd

end
-- ==== Proof.Columns.lean ====
/-
Columns of two-dimensional arrays of 512 lanes, as functions of a row's number, and products over their rows.
-/
module

public import Idealize.ShloMosaic.PureOps.Ideal
public import Idealize.ShloMosaic.Lib.WordCmp
public import Mathlib.Algebra.BigOperators.Intervals

@[expose] public section

noncomputable section

namespace Cert.CumProd

open Idealize.ShloMosaic
open Finset (range)

/-- The index of row `r`, lane `l`. -/
def ix {n : ℕ} (r : Fin n) (l : Fin 512) : (⟨2, ![n, 512]⟩ : Shape).Idx := fun a =>
  match a with
  | ⟨0, _⟩ => r
  | ⟨1, _⟩ => l

/-- Every index is the one of its row and its lane. -/
theorem ix_eta {n : ℕ} (i : (⟨2, ![n, 512]⟩ : Shape).Idx) : i = ix (n := n) (i 0) (i 1) :=
  funext fun a => by
    match a with
    | ⟨0, _⟩ => rfl
    | ⟨1, _⟩ => rfl

/-- Lane `l` of an array at row number `r`; 1 past the last row. -/
def col {n : ℕ} (v : (⟨2, ![n, 512]⟩ : Shape).Idx → EReal) (l : Fin 512) (r : ℕ) : EReal :=
  if h : r < n then v (ix ⟨r, h⟩ l) else 1

theorem col_lt {n : ℕ} (v : (⟨2, ![n, 512]⟩ : Shape).Idx → EReal) (l : Fin 512) {r : ℕ} (h : r < n) :
    col v l r = v (ix ⟨r, h⟩ l) := dif_pos h

/-- Two arrays with the same columns are the same. -/
theorem ext_col {n : ℕ} {v w : (⟨2, ![n, 512]⟩ : Shape).Idx → EReal} (h : ∀ l, ∀ r < n, col v l r = col w l r) : v = w :=
  funext fun i => by
    rw [ix_eta i]
    exact ((col_lt v (i 1) (i 0).isLt).symm.trans (h (i 1) (i 0).val (i 0).isLt)).trans (col_lt w (i 1) (i 0).isLt)

/-- A product whose factors are 1 from `n` on stops at `n`. -/
theorem prod_cut {w n : ℕ} (h : n ≤ w) (f : ℕ → EReal) : ∏ k ∈ range w, (if k < n then f k else 1) = ∏ k ∈ range n, f k := by
  obtain ⟨d, rfl⟩ := Nat.exists_eq_add_of_le h
  rw [Finset.prod_range_add]
  rw [Finset.prod_congr rfl fun k hk => if_pos (Finset.mem_range.mp hk)]
  rw [Finset.prod_eq_one (s := range d) fun k _ => if_neg (by omega), mul_one]

/-- Products of consecutive stretches of `s` factors are a product of the whole. -/
theorem prod_blocks (s c : ℕ) (f : ℕ → EReal) :
    ∏ j ∈ range c, ∏ k ∈ range s, f (j * s + k) = ∏ i ∈ range (c * s), f i := by
  induction c with
  | zero => simp
  | succ c ih => rw [Finset.prod_range_succ, ih, Nat.succ_mul, Finset.prod_range_add]

/-- The number 1 of the bf16 format. -/
theorem one_bf16 : (Scalar.ofBits .bf16 0x3F80#16 : Ideal .bf16) = (1 : EReal) := by
  show Ideal.ofBits .bf16 0x3F80#16 = 1
  simp [Ideal.ofBits, Ideal.ieee, -EReal.coe_mul]; norm_num

end Cert.CumProd

end
-- ==== Proof.Scan.lean ====
/-
What the kernel's arithmetic computes over the extended reals: the halvings give the product of a block's rows, the shifts give the
product down from a block's first row, and the last step multiplies in the rows of the devices before.
-/
module

public import proofs.«01_k».proof.Proof.Body
public import proofs.«01_k».proof.Proof.Columns
public import Idealize.ShloMosaic.Lib.Pointwise.Reshape

@[expose] public section

noncomputable section

namespace Cert.CumProd

open Cert.KernelIdeal Cert.KernelIdeal.Gen
open Idealize.ShloMosaic
open Finset (range)

/-! ## The product of all rows -/

/-- Multiplying the two halves of an array keeps the product of a column. -/
theorem half_total {n h : ℕ} (e : n = h + h) (v : FVec Ideal ⟨2, ![n, 512]⟩ .bf16)
    (h0 : (⟨2, ![n, 512]⟩ : Shape).Slices ![0, 0] ⟨2, ![h, 512]⟩) (h1 : (⟨2, ![n, 512]⟩ : Shape).Slices ![h, 0] ⟨2, ![h, 512]⟩) (l : Fin 512) :
    ∏ r ∈ range h, col (mulf (extractStridedSlice ⟨2, ![h, 512]⟩ ![0, 0] v h0) (extractStridedSlice ⟨2, ![h, 512]⟩ ![h, 0] v h1)) l r
      = ∏ r ∈ range n, col v l r := by
  subst e
  rw [Finset.prod_range_add, ← Finset.prod_mul_distrib]
  refine Finset.prod_congr rfl fun r hr => ?_
  have hr := Finset.mem_range.mp hr
  rw [col_lt _ l hr, col_lt v l (show r < h + h by omega), col_lt v l (show h + r < h + h by omega)]
  show extractStridedSlice ⟨2, ![h, 512]⟩ ![0, 0] v h0 (ix ⟨r, hr⟩ l) * extractStridedSlice ⟨2, ![h, 512]⟩ ![h, 0] v h1 (ix ⟨r, hr⟩ l) = _
  refine congrArg₂ (fun a b : EReal => a * b) (congrArg v (funext fun a => Fin.ext ?_)) (congrArg v (funext fun a => Fin.ext ?_))
  · match a with
    | ⟨0, _⟩ => exact Nat.zero_add r
    | ⟨1, _⟩ => exact Nat.zero_add l.val
  · match a with
    | ⟨0, _⟩ => rfl
    | ⟨1, _⟩ => exact Nat.zero_add l.val

/-- The row a device sends: the product of its block's rows. -/
theorem total (x : FVec Ideal S512x512 .bf16) (l : Fin 512) : col (n := 1) (k0_pay2 x) l 0 = ∏ r ∈ range 512, col x l r := by
  refine Eq.trans ?_ (half_total (n := 512) (h := 256) rfl _ slices_S512x512_o0_0_S256x512 slices_S512x512_o256_0_S256x512 l)
  refine Eq.trans ?_ (half_total (n := 256) (h := 128) rfl _ slices_S256x512_o0_0_S128x512 slices_S256x512_o128_0_S128x512 l)
  refine Eq.trans ?_ (half_total (n := 128) (h := 64) rfl _ slices_S128x512_o0_0_S64x512 slices_S128x512_o64_0_S64x512 l)
  refine Eq.trans ?_ (half_total (n := 64) (h := 32) rfl _ slices_S64x512_o0_0_S32x512 slices_S64x512_o32_0_S32x512 l)
  refine Eq.trans ?_ (half_total (n := 32) (h := 16) rfl _ slices_S32x512_o0_0_S16x512 slices_S32x512_o16_0_S16x512 l)
  refine Eq.trans ?_ (half_total (n := 16) (h := 8) rfl _ slices_S16x512_o0_0_S8x512 slices_S16x512_o8_0_S8x512 l)
  refine Eq.trans ?_ (half_total (n := 8) (h := 4) rfl _ slices_S8x512_o0_0_S4x512 slices_S8x512_o4_0_S4x512 l)
  refine Eq.trans ?_ (half_total (n := 4) (h := 2) rfl _ slices_S4x512_o0_0_S2x512 slices_S4x512_o2_0_S2x512 l)
  refine Eq.trans ?_ (half_total (n := 2) (h := 1) rfl _ slices_S2x512_o0_0_S1x512 slices_S2x512_o1_0_S1x512 l)
  rw [Finset.prod_range_one]
  exact congrArg (fun v => col (n := 1) v l 0) (shapeCast_id _ shapeCasts_S1x512_S1x512)

/-! ## The products down from the first row -/

/-- One shift: every row times the row `s` before it, where there is one. -/
def shift (s : ℕ) (v : FVec Ideal S512x512 .bf16) : FVec Ideal S512x512 .bf16 :=
  mulf v (select (cmpi .sge (iota .tc S512x512 32 [0] iota_S512x512_d0_w32) (broadcast S512x512 (BitVec.ofNat 32 s)))
    (dynamicRotate 0 (BitVec.ofNat 32 s) none v rotates_S512x512_d0) k0_pay3)

/-- The kernel's scan is nine shifts. -/
theorem scan9_shifts (x : FVec Ideal S512x512 .bf16) :
    scan9 x = shift 256 (shift 128 (shift 64 (shift 32 (shift 16 (shift 8 (shift 4 (shift 2 (shift 1 x)))))))) := rfl

theorem shift_col {s : ℕ} (h0 : 0 < s) (hs : s < 512) (v : FVec Ideal S512x512 .bf16) (l : Fin 512) {r : ℕ} (hr : r < 512) :
    col (n := 512) (shift s v) l r = col (n := 512) v l r * (if s ≤ r then col (n := 512) v l (r - s) else 1) := by
  rw [col_lt (n := 512) _ l hr, col_lt (n := 512) v l hr]
  show v (ix ⟨r, hr⟩ l) * Scalar.select (IntOp.cmpi .sge (BitVec.ofNat 32 (0 * 512 + r)) (BitVec.ofNat 32 s))
    (dynamicRotate 0 (BitVec.ofNat 32 s) none v rotates_S512x512_d0 (ix ⟨r, hr⟩ l)) (Scalar.ofBits .bf16 0x3F80#16 : Ideal .bf16) = _
  refine congrArg (fun b : EReal => v (ix ⟨r, hr⟩ l) * b) ?_
  rw [Nat.zero_mul, Nat.zero_add, one_bf16, WordCmp.cmpi_sge_ofNat (show r < 2 ^ (32 - 1) by omega) (show s < 2 ^ (32 - 1) by omega)]
  by_cases h : s ≤ r
  · rw [if_pos h, col_lt (n := 512) v l (show r - s < 512 by omega)]
    unfold Scalar.select
    rw [if_pos (by simp [h])]
    have hn : (BitVec.ofNat 32 s).toNat = s := by rw [BitVec.toNat_ofNat]; omega
    unfold dynamicRotate
    refine congrArg v (funext fun b => Fin.ext ?_)
    match b with
    | ⟨0, _⟩ =>
      show (r + 512 - ((BitVec.ofNat 32 s).toNat + 0) % 512) % 512 = r - s
      rw [hn]; omega
    | ⟨1, _⟩ => rfl
  · rw [if_neg h]
    unfold Scalar.select
    rw [if_neg (by simp [h])]

/-- Every row of `v` is the product of the `w` rows of `x` that end there, or of all there are. -/
def Window (x v : FVec Ideal S512x512 .bf16) (w : ℕ) : Prop :=
  ∀ l, ∀ r < 512, col (n := 512) v l r = ∏ k ∈ range w, if k < r + 1 then col (n := 512) x l (r - k) else 1

/-- A shift by `w` doubles the window. -/
theorem Window.step {x v : FVec Ideal S512x512 .bf16} {w : ℕ} (h : Window x v w) (h0 : 0 < w) (hw : w < 512) : Window x (shift w v) (w + w) := by
  intro l r hr
  rw [shift_col h0 hw v l hr, h l r hr, Finset.prod_range_add]
  congr 1
  by_cases hwr : w ≤ r
  · rw [if_pos hwr, h l (r - w) (by omega)]
    refine Finset.prod_congr rfl fun k _ => ?_
    by_cases hk : k < r - w + 1
    · rw [if_pos hk, if_pos (by omega), Nat.sub_sub]
    · rw [if_neg hk, if_neg (by omega)]
  · rw [if_neg hwr]
    exact (Finset.prod_eq_one fun k _ => if_neg (by omega)).symm

/-- The scan: every row is the product of the rows of the block down to it. -/
theorem scan_col (x : FVec Ideal S512x512 .bf16) (l : Fin 512) {r : ℕ} (hr : r < 512) :
    col (n := 512) (scan9 x) l r = ∏ k ∈ range (r + 1), col (n := 512) x l k := by
  have h1 : Window x x 1 := fun l r _ => by rw [Finset.prod_range_one, if_pos (by omega), Nat.sub_zero]
  have h2 := h1.step (by decide) (by decide)
  have h4 := h2.step (by decide) (by decide)
  have h8 := h4.step (by decide) (by decide)
  have h16 := h8.step (by decide) (by decide)
  have h32 := h16.step (by decide) (by decide)
  have h64 := h32.step (by decide) (by decide)
  have h128 := h64.step (by decide) (by decide)
  have h256 := h128.step (by decide) (by decide)
  have h512 := h256.step (by decide) (by decide)
  rw [scan9_shifts]
  refine (h512 l r hr).trans ?_
  rw [prod_cut (show r + 1 ≤ 256 + 256 by omega) fun k => col (n := 512) x l (r - k)]
  refine Eq.trans (Finset.prod_congr rfl fun k _ => ?_) (Finset.prod_range_reflect (fun k => col (n := 512) x l k) (r + 1))
  exact congrArg (col (n := 512) x l) (by omega)

/-! ## The rows of the devices before -/

/-- Multiplying rows in one by one is multiplying by their product. -/
theorem pre_apply (T : Dev nD → FVec Ideal S1x512 .bf16) (c : Dev nD) (a : FVec Ideal S1x512 .bf16) (L : List (Dev nD)) (i : S1x512.Idx) :
    (pre (F := Ideal) T c a L i : EReal) = a i * (L.map fun j => (sel (F := Ideal) T c j i : EReal)).prod := by
  induction L generalizing a with
  | nil => exact (mul_one _).symm
  | cons j L ih =>
    refine (ih (mulf a (sel T c j))).trans ?_
    rw [List.map_cons, List.prod_cons]
    exact mul_assoc (a i : EReal) (sel T c j i) _

/-- The order of the rows names every device but the last, once. -/
theorem order_set : order.toFinset = Finset.univ.erase (31 : Dev nD) := by decide +kernel

theorem ones_apply (i : S1x512.Idx) : (ones (F := Ideal) i : EReal) = 1 := one_bf16

/-- All rows multiplied in: the product of the rows of the devices before. -/
theorem pre_order (T : Dev nD → FVec Ideal S1x512 .bf16) (c : Dev nD) (t : ℕ → EReal) (i : S1x512.Idx) (ht : ∀ j : Dev nD, T j i = t j.val) :
    (pre (F := Ideal) T c ones order i : EReal) = ∏ j ∈ range c.val, t j := by
  have hs : ∀ j : Dev nD, (sel (F := Ideal) T c j i : EReal) = if j.val < c.val then t j.val else 1 := fun j => by
    unfold sel
    by_cases h : j < c
    · rw [if_pos h, if_pos (show j.val < c.val from h)]; exact ht j
    · rw [if_neg h, if_neg (show ¬ j.val < c.val from h)]; exact ones_apply i
  rw [pre_apply, ones_apply, one_mul, ← List.prod_toFinset _ (by decide +kernel : order.Nodup), order_set, Finset.prod_erase]
  · rw [Finset.prod_congr rfl fun j _ => hs j]
    rw [← prod_cut (show c.val ≤ 32 from Nat.le_of_lt c.isLt) t, Finset.prod_range]
  · rw [hs, if_neg]
    have := c.isLt
    show ¬ 31 < c.val
    have h32 : c.val < 32 := c.isLt
    omega

/-- A row repeated down a block. -/
theorem repeat_row (u : FVec Ideal S1x512 .bf16) {r : ℕ} (hr : r < 512) (l : Fin 512) :
    broadcastTo S512x512 u broadcasts_S1x512_S512x512 (ix ⟨r, hr⟩ l) = u (ix (n := 1) ⟨0, Nat.zero_lt_one⟩ l) := by
  unfold broadcastTo
  refine congrArg u (funext fun a => Fin.ext ?_)
  match a with
  | ⟨0, _⟩ => rfl
  | ⟨1, _⟩ => rfl

/-- A block the kernel leaves: at row `r` the product of the earlier devices' rows and of the block's rows down to `r`. -/
theorem out_col (T : Dev nD → FVec Ideal S1x512 .bf16) (c : Dev nD) (x : FVec Ideal S512x512 .bf16) (l : Fin 512) (t : ℕ → EReal)
    (ht : ∀ j : Dev nD, col (n := 1) (T j) l 0 = t j.val) {r : ℕ} (hr : r < 512) :
    col (n := 512) (outOf T c x) l r = (∏ j ∈ range c.val, t j) * ∏ k ∈ range (r + 1), col (n := 512) x l k := by
  rw [← scan_col x l hr, col_lt (n := 512) _ l hr, col_lt (n := 512) _ l hr, mul_comm]
  show (scan9 x (ix ⟨r, hr⟩ l) : EReal) * broadcastTo S512x512 (pre T c ones order) broadcasts_S1x512_S512x512 (ix ⟨r, hr⟩ l) = _
  refine congrArg (fun b : EReal => scan9 x (ix ⟨r, hr⟩ l) * b) ?_
  have hp := pre_order T c t (ix (n := 1) ⟨0, Nat.zero_lt_one⟩ l) fun j => (col_lt (n := 1) (T j) l Nat.zero_lt_one).symm.trans (ht j)
  exact (repeat_row _ hr l).trans hp

end Cert.CumProd

end
-- ==== Proof.Value.lean ====
/-
The kernel's result on all devices, over the extended reals: the products of the whole array's rows down to each row.
-/
module

public import proofs.«01_k».proof.Proof.Run
public import proofs.«01_k».proof.Proof.Scan

@[expose] public section

noncomputable section

namespace Cert.CumProd

open Cert.KernelIdeal Cert.KernelIdeal.Gen
open Idealize.ShloMosaic Idealize.ShloMosaic.TcCoe Idealize.SL.Sem
open Finset (range)

section Whole

variable {F : FTy → Type} [FloatOps F] (m : (ℓ : Loc nD τ sig) → Buf (Elt F) ℓ) (c : Dev nD)

/-- The block a device reads is its part of the argument. -/
theorem block_eq : blockOf m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- After the run the result's array is what the body left. -/
theorem arr_out : (dats m 0 c).arrAt (1 : Fin 2) cfg0.N = resultOf m c := by
  have hz : (fun a => (win0_1.index (0 : Fin 1)) a * main_v1.ty.shape.size a) = fun _ => 0 := funext fun a => by fin_cases a <;> decide
  have hr := Memref.read_access_unit_zero (Elt F) main_v1 hz (fun a => by fin_cases a <;> decide) ((dats m 0 c).arrAt (1 : Fin 2) cfg0.N)
  refine hr.symm.trans ?_
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

end Whole

/-! ## The devices' blocks as parts of one array -/

/-- Row `r` of the block of device `c` is row `512 c + r` of the whole. -/
theorem block_col (v : (⟨2, ![16384, 512]⟩ : Shape).Idx → EReal) (c : Dev nD) (l : Fin 512) {r : ℕ} (hr : r < 512) :
    col (n := 512) (Layout.block ⟨2, ![512, 512]⟩ ⟨2, ![16384, 512]⟩ 0 32 c v) l r = col (n := 16384) v l (c.val * 512 + r) := by
  have hc : c.val < 32 := c.isLt
  rw [col_lt (n := 512) _ l hr, col_lt (n := 16384) v l (show c.val * 512 + r < 16384 by omega)]
  unfold Layout.block
  refine congrArg v (funext fun a => Fin.ext ?_)
  match a with
  | ⟨0, _⟩ => rfl
  | ⟨1, _⟩ => rfl

/-- Where every device holds its block of `v`, its result at row `r` is the product of the rows of `v` down to `512 c + r`. -/
theorem result_col (m : (ℓ : Loc nD τ sig) → Buf (Elt Ideal) ℓ) (v : (⟨2, ![16384, 512]⟩ : Shape).Idx → EReal)
    (h : ∀ c : Dev nD, m ((c : Thread nD τ).loc main_arg0) = Layout.block ⟨2, ![512, 512]⟩ ⟨2, ![16384, 512]⟩ 0 32 c v)
    (c : Dev nD) (l : Fin 512) {r : ℕ} (hr : r < 512) :
    col (n := 512) (resultOf m c) l r = ∏ i ∈ range (c.val * 512 + r + 1), col (n := 16384) v l i := by
  have hx : ∀ d : Dev nD, ∀ k < 512, col (n := 512) (k0_pay1 (blockOf m d)) l k = col (n := 16384) v l (d.val * 512 + k) := fun d k hk => by
    rw [← block_col v d l hk, ← h d, ← block_eq m d]
    exact congrArg (fun w => col (n := 512) w l k) (shapeCast_id _ shapeCasts_S512x512_S512x512)
  have ht : ∀ j : Dev nD, col (n := 1) (rowOf m j) l 0 = ∏ k ∈ range 512, col (n := 16384) v l (j.val * 512 + k) := fun j =>
    (total _ l).trans (Finset.prod_congr rfl fun k hk => hx j k (Finset.mem_range.mp hk))
  refine (out_col (rowOf m) c (k0_pay1 (blockOf m c)) l (fun j => ∏ k ∈ range 512, col (n := 16384) v l (j * 512 + k)) ht hr).trans ?_
  rw [prod_blocks 512 c.val fun i => col (n := 16384) v l i, Nat.add_assoc, Finset.prod_range_add (fun i => col (n := 16384) v l i) (c.val * 512) (r + 1)]
  refine congrArg₂ (fun a b : EReal => a * b) rfl ?_
  refine Finset.prod_congr rfl fun k hk => hx c k ?_
  have hk := Finset.mem_range.mp hk
  omega

/-- The products down the columns of `v`. -/
def products (v : (⟨2, ![16384, 512]⟩ : Shape).Idx → EReal) : (⟨2, ![16384, 512]⟩ : Shape).Idx → EReal :=
  fun i => ∏ k ∈ range ((i 0).val + 1), col (n := 16384) v (i 1) k

theorem products_col (v : (⟨2, ![16384, 512]⟩ : Shape).Idx → EReal) (l : Fin 512) {r : ℕ} (hr : r < 16384) :
    col (n := 16384) (products v) l r = ∏ k ∈ range (r + 1), col (n := 16384) v l k := (col_lt (n := 16384) (products v) l hr).trans rfl

/-- Where every device holds its block of `v`, it ends with its block of the products of `v`, and with its argument as it was. -/
theorem run_products (m : (ℓ : Loc nD τ sig) → Buf (Elt Ideal) ℓ) (ρ : Dev nD → PrngReg) (v : (⟨2, ![16384, 512]⟩ : Shape).Idx → EReal)
    (h : ∀ c : Dev nD, m ((c : Thread nD τ).loc main_arg0) = Layout.block ⟨2, ![512, 512]⟩ ⟨2, ![16384, 512]⟩ 0 32 c v) :
    θ_run defs (onTc (τ := τ) (main (F := Ideal))) ⟨m, fun _ => 0, ρ⟩ (fun r => ∀ c : Dev nD,
      r.2.mem ((c : Thread nD τ).loc main_v1) = Layout.block ⟨2, ![512, 512]⟩ ⟨2, ![16384, 512]⟩ 0 32 c (products v)
      ∧ r.2.mem ((c : Thread nD τ).loc main_arg0) = m ((c : Thread nD τ).loc main_arg0)) := by
  have hv : ∀ c : Dev nD, resultOf m c = Layout.block ⟨2, ![512, 512]⟩ ⟨2, ![16384, 512]⟩ 0 32 c (products v) := fun c =>
    ext_col (n := 512) fun l r hr => by
      have hc : c.val < 32 := c.isLt
      rw [block_col (products v) c l hr, products_col v l (show c.val * 512 + r < 16384 by omega)]
      exact result_col m v h c l hr
  exact (θ_run defs _ _).mono (fun _ hr c => ⟨(hr.1 c (1 : Fin 2)).trans ((arr_out m c).trans (hv c)), (hr.1 c (0 : Fin 2)).trans (arr_in m c)⟩)
    (run_all m ρ)

end Cert.CumProd

end
-- ==== Proof.Fold.lean ====
/-
The reference's loop over the extended reals: before trip `n` its running row is the product of the first `n` rows, and the rows it has
written are the products down to each of them.
-/
module

public import proofs.«01_k».proof.Proof.Columns
public import proofs.«01_k».proof.Proof.Gen.ReferenceIdeal.Run

@[expose] public section

noncomputable section

namespace Cert.CumProd.Fold

open Cert.ReferenceIdeal Cert.ReferenceIdeal.Gen Cert.ReferenceIdeal.Value
open Idealize.ShloMosaic Idealize.ShloMosaic.TcCoe Idealize.ShloMosaic.StableHlo Idealize.SL.Sem
open Finset (range)

/-! ## The arrays of one trip -/

/-- The index of lane `l` in a row. -/
def lane (l : Fin 512) : S512.Idx := fun a =>
  match a with
  | ⟨0, _⟩ => l

/-- Where trip `n` reads and writes: row `n`, lane 0. -/
def place (n : ℕ) (k : Fin 2) : Int :=
  ((![constantI S_ 32 (BitVec.ofNat 32 n), constantI S_ 32 0#32] : Fin 2 → (⟨S_, .i32⟩ : BufTy).Contents (Elt Ideal)) k (Shape.Idx.first h_S_)).toInt

theorem place_eq {n : ℕ} (hn : n < 16384) (a : Fin 2) : place n a = ((![n, 0] : Fin 2 → ℕ) a : Int) := by
  match a with
  | ⟨0, _⟩ => exact WordCmp.toInt_ofNat_of_lt (show n < 2 ^ (32 - 1) by omega)
  | ⟨1, _⟩ => exact WordCmp.toInt_ofNat_of_lt (w := 32) (show 0 < 2 ^ (32 - 1) by omega)

theorem fits {n : ℕ} (hn : n < 16384) : S16384x512.Slices (![n, 0] : Fin 2 → ℕ) S1x512 :=
  ⟨rfl, fun a => by
    match a with
    | ⟨0, _⟩ => show n + 1 ≤ 16384; omega
    | ⟨1, _⟩ => exact Nat.le_refl 512⟩

/-- The row a trip reads. -/
theorem read_row {n : ℕ} (hn : n < 16384) (x : S16384x512.Idx → EReal) (l : Fin 512) :
    shapeCast S512 (Host.dynamicSlice S1x512 x (place n) sliceFits_S16384x512_S1x512) shapeCasts_S1x512_S512 (lane l) = col (n := 16384) x l n := by
  have hi : Shape.reshapeEquiv shapeCasts_S1x512_S512 (lane l) = ix (n := 1) 0 l := by
    apply S1x512.rowMajor.injective
    apply Fin.ext
    rw [Shape.rowMajor_reshapeEquiv]
    simp [Shape.rowMajor_val_two, Shape.rowMajor_val_one, ix, lane]
  unfold shapeCast
  rw [hi, col_lt (n := 16384) _ l hn, WordCmp.dynamicSlice_eq_extract _ _ _ _ (![n, 0] : Fin 2 → ℕ) (fits hn) (place_eq hn)]
  unfold extractStridedSlice
  refine congrArg x (funext fun a => Fin.ext ?_)
  match a with
  | ⟨0, _⟩ => rfl
  | ⟨1, _⟩ => exact Nat.zero_add l.val

/-- What a trip writes: the row `u` at row `n`, elsewhere what was there. -/
theorem write_row {n : ℕ} (hn : n < 16384) (o : S16384x512.Idx → EReal) (u : S512.Idx → EReal) (l : Fin 512) {r : ℕ} (hr : r < 16384) :
    col (n := 16384) (Host.dynamicUpdateSlice o (broadcastInDim S1x512 ![1] bcast_S512_S1x512_1 u) (place n) updateFits_S16384x512_S1x512) l r
      = if r = n then u (lane l) else col (n := 16384) o l r := by
  rw [col_lt (n := 16384) _ l hr, col_lt (n := 16384) _ l hr]
  rw [WordCmp.dynamicUpdateSlice_eq_update _ _ _ _ (![n, 0] : Fin 2 → ℕ) (fits hn) (place_eq hn)]
  unfold updateSlice
  by_cases h : r = n
  · rw [if_pos h, dif_pos]
    · unfold broadcastInDim
      refine congrArg u (funext fun a => Fin.ext ?_)
      match a with
      | ⟨0, _⟩ => exact Nat.sub_zero l.val
    · intro a
      match a with
      | ⟨0, _⟩ => show n ≤ r ∧ r < n + 1; omega
      | ⟨1, _⟩ => exact ⟨Nat.zero_le _, by have := l.isLt; show l.val < 0 + 512; omega⟩
  · rw [if_neg h, dif_neg]
    intro hin
    have h0 : n ≤ r ∧ r < n + 1 := hin 0
    omega

/-! ## The trips -/

/-- What the buffers hold before trip `n`, of the argument `x`. -/
structure Before (x : S16384x512.Idx → EReal) (n : ℕ) (V : Valuation τ sig (Elt Ideal)) : Prop where
  number : V (Proc.devRef .tc main_v2_1) = constantI S_ 32 (BitVec.ofNat 32 n)
  arg : V (Proc.devRef .tc main_v2_0) = x
  acc : ∀ l, (V (Proc.devRef .tc main_v2_2) : S512.Idx → EReal) (lane l) = ∏ k ∈ range n, col (n := 16384) x l k
  out : ∀ l, ∀ r < n, col (n := 16384) (V (Proc.devRef .tc main_v2_3)) l r = ∏ k ∈ range (r + 1), col (n := 16384) x l k

/-- A trip's new running row. -/
theorem Before.row {x : S16384x512.Idx → EReal} {n : ℕ} {V : Valuation τ sig (Elt Ideal)} (h : Before x n V) (hn : n < 16384) (l : Fin 512) :
    (res_main_while0b_v4 V : S512.Idx → EReal) (lane l) = ∏ k ∈ range (n + 1), col (n := 16384) x l k := by
  unfold res_main_while0b_v4
  rw [h.arg, h.number, Finset.prod_range_succ, ← h.acc l, ← read_row hn x l]
  rfl

/-- One trip. -/
theorem Before.step {x : S16384x512.Idx → EReal} {n : ℕ} {V : Valuation τ sig (Elt Ideal)} (h : Before x n V) (hn : n < 16384) :
    Before x (n + 1) (STEP V) where
  number := by
    refine (STEP_main_v2_1 V).trans ?_
    unfold step_main_v2_1
    rw [h.number]
    funext i
    show BitVec.ofNat 32 n + BitVec.ofNat 32 1 = BitVec.ofNat 32 (n + 1)
    rw [BitVec.ofNat_add]
  arg := (STEP_main_v2_0 V).trans h.arg
  acc l := by
    rw [STEP_main_v2_2 V]
    exact h.row hn l
  out l r hr := by
    rw [STEP_main_v2_3 V]
    unfold step_main_v2_3
    rw [h.number]
    refine (write_row hn (V (Proc.devRef .tc main_v2_3)) (res_main_while0b_v4 V) l (show r < 16384 by omega)).trans ?_
    by_cases e : r = n
    · rw [if_pos e, e]; exact h.row hn l
    · rw [if_neg e]; exact h.out l r (by omega)

variable (m : (ℓ : Loc nD τ sig) → Buf (Elt Ideal) ℓ) (c : Dev nD)

set_option maxRecDepth 65536 in
/-- Before the first trip. -/
theorem before_zero : Before (m ((c.tc : Thread nD τ).loc main_arg0)) 0 (entryContents preI m c) where
  number := by simp only [entryContents, afterL_cons, afterL_nil]; after_reads_simp; rfl
  arg := by simp only [entryContents, afterL_cons, afterL_nil]; after_reads_simp; rfl
  acc l := by
    have e : entryContents preI m c (Proc.devRef .tc main_v2_2) = broadcastInDim S512 ![] bcast_S_S512 (constant (F := Ideal) S_ .bf16 0x3F80#16) := by
      simp only [entryContents, afterL_cons, afterL_nil]; after_reads_simp; rfl
    rw [e]; exact one_bf16
  out l r hr := absurd hr (Nat.not_lt_zero r)

theorem before_trip : ∀ n ≤ 16384, Before (m ((c.tc : Thread nD τ).loc main_arg0)) n (STEP^[n] (entryContents preI m c))
  | 0, _ => before_zero m c
  | n + 1, h => by
    rw [Function.iterate_succ_apply']
    exact (before_trip n (by omega)).step (by omega)

/-- The run of the reference: every row of its result is the product of the argument's rows down to it, and the argument is as it was. -/
theorem run (ρ : Dev nD → PrngReg) : θ_run (defs (F := Ideal)) (onTc (τ := τ) (main (F := Ideal))) ⟨m, fun _ => 0, ρ⟩ fun r => ∀ c : Dev nD,
    (∀ l, ∀ k < 16384, col (n := 16384) (r.2.mem ((c.tc : Thread nD τ).loc main_v2_3)) l k
      = ∏ i ∈ range (k + 1), col (n := 16384) (m ((c.tc : Thread nD τ).loc main_arg0)) l i)
    ∧ r.2.mem ((c.tc : Thread nD τ).loc main_arg0) = m ((c.tc : Thread nD τ).loc main_arg0) :=
  (θ_run defs _ _).mono (fun _ h c => ⟨fun l k hk => by
    rw [(h c).1]; exact (before_trip m c 16384 (Nat.le_refl _)).out l k hk, (h c).2⟩) (Value.run m ρ)

end Cert.CumProd.Fold

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import proofs.«01_k».proof.Proof.Value
public import proofs.«01_k».proof.Proof.Fold
public import Idealize.ShloMosaic.Lib.Quiescent
public import Idealize.ShloMosaic.Init
public import Idealize.ShloMosaic.Lib.Tactic

@[expose] public section

noncomputable section

namespace Cert.Proof

open Idealize.ShloMosaic Idealize.SL.Sem Cert.Kernel

/-- What `frame_kernelIdeal` says, of the same program at the machine's own floats. -/
def quietAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)

/-- The kernel's two printings are one text, so their frames at the same floats are one statement. -/
theorem frame_same : Cert.quiescent_Kernel = quietAtBits := by sl_kernel_rfl

/-- The kernel ends, with its input as it was and every counter at zero. -/
theorem frame_kernel : Cert.quiescent_Kernel :=
  frame_same.mpr fun m g _ => Cert.CumProd.run_frame (F := Bits) m g

/-- So does its reading over the extended reals. -/
theorem frame_kernelIdeal : Cert.quiescent_KernelIdeal := fun m g _ => Cert.CumProd.run_frame (F := Ideal) m g

/-- The reference has no semaphore and never writes its argument. -/
theorem frame_referenceIdeal : Cert.quiescent_ReferenceIdeal := fun m g _ =>
  (θ_run Cert.ReferenceIdeal.defs _ _).mono (fun r h => ⟨fun c => (h c).2, sem_eq_zero_of_no_sems (by decide) r.2⟩) (Cert.CumProd.Fold.run m g)

/-- Kernel and reference end with the products of the rows down to each row. -/
theorem algebraic : Cert.algebraic_KernelIdeal_ReferenceIdeal := fun m g m' g' _ h =>
  ⟨Cert.CumProd.products (m' (((0 : Dev Cert.ReferenceIdeal.nD).tc : Thread Cert.ReferenceIdeal.nD Cert.ReferenceIdeal.τ).loc Cert.ReferenceIdeal.main_arg0)),
    Cert.CumProd.run_products m g _ h,
    (θ_run Cert.ReferenceIdeal.defs _ _).mono (fun _ hr => ⟨Cert.CumProd.ext_col (n := 16384) fun l k hk =>
      ((hr 0).1 l k hk).trans (Cert.CumProd.products_col _ l hk).symm, (hr 0).2⟩) (Cert.CumProd.Fold.run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
